-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_in_range [hPre_targets_in_range : Cert.Pre_targets_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_targets_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_in_range [hPre_targets_in_range : Cert.Pre_targets_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_targets_in_range [hKernelIdeal : Cert.KernelIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_targets_in_range [hReferenceIdeal : Cert.ReferenceIdeal.Facts] [hPre_targets_in_range : Cert.Pre_targets_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_targets_in_range [hKernelIdeal : Cert.KernelIdeal.Facts] [hReferenceIdeal : Cert.ReferenceIdeal.Facts] [hPre_targets_in_range : Cert.Pre_targets_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_targets_in_range : Cert.Pre_targets_in_range.Facts),
    quiescent_Kernel (hKernel := hKernel)
    ∧ quiescent_KernelIdeal (hKernelIdeal := hKernelIdeal)
    ∧ quiescent_KernelIdeal_pre_targets_in_range (hKernelIdeal := hKernelIdeal) (hPre_targets_in_range := hPre_targets_in_range)
    ∧ quiescent_ReferenceIdeal (hReferenceIdeal := hReferenceIdeal)
    ∧ quiescent_ReferenceIdeal_pre_targets_in_range (hReferenceIdeal := hReferenceIdeal) (hPre_targets_in_range := hPre_targets_in_range)
    ∧ preserves_Kernel_KernelIdeal
    ∧ algebraic_KernelIdeal_ReferenceIdeal_pre_targets_in_range (hKernelIdeal := hKernelIdeal) (hReferenceIdeal := hReferenceIdeal) (hPre_targets_in_range := hPre_targets_in_range)
-- ==== Pre_targets_in_range.lean ====
abbrev S256x2048x16x8 : Shape := ⟨4, ![256, 2048, 16, 8]⟩
abbrev S256 : Shape := ⟨1, ![256]⟩
abbrev S10000x2048 : Shape := ⟨2, ![10000, 2048]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x2048x16x8 .f32) (main_arg1 : IVec S256 32) (main_arg2 : FVec F S10000x2048 .f32) : IVec S256 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 10000#32
  let main_v2 : IVec S256 32 := broadcastInDim S256 ![] bcast_S_S256 main_c_0
  let main_v3 : IVec S256 1 := cmpi .slt main_arg1 main_v2
  let main_v4 : IVec S256 1 := andi main_v1 main_v3
  main_v4
-- ==== Kernel.lean ====
abbrev S256x2048x16x8 : Shape := ⟨4, ![256, 2048, 16, 8]⟩
abbrev S256 : Shape := ⟨1, ![256]⟩
abbrev S10000x2048 : Shape := ⟨2, ![10000, 2048]⟩
abbrev S256x16x8x2048 : Shape := ⟨4, ![256, 16, 8, 2048]⟩
abbrev S256x128x2048 : Shape := ⟨3, ![256, 128, 2048]⟩
abbrev S1x256 : Shape := ⟨2, ![1, 256]⟩
abbrev S10000x256 : Shape := ⟨2, ![10000, 256]⟩
abbrev S256x2048 : Shape := ⟨2, ![256, 2048]⟩
abbrev S8x128x2048 : Shape := ⟨3, ![8, 128, 2048]⟩
abbrev S1024x2048 : Shape := ⟨2, ![1024, 2048]⟩
abbrev S1024x256 : Shape := ⟨2, ![1024, 256]⟩
abbrev S8x2048 : Shape := ⟨2, ![8, 2048]⟩
abbrev S1 : Shape := ⟨1, ![1]⟩
abbrev S1x1 : Shape := ⟨2, ![1, 1]⟩
abbrev S256x10000 : Shape := ⟨2, ![256, 10000]⟩

abbrev nBuf : Space → Nat
  | .hbm => 12
  | .vmem => 16
  | .smem => 0
  | _ => 0

abbrev bufTy : (tb : Table) → Fin (tcTables nBuf tb) → BufTy
  | .hbm, ⟨0, _⟩ => ⟨S256x2048x16x8, .f32⟩
  | .hbm, ⟨1, _⟩ => ⟨S256, .i32⟩
  | .hbm, ⟨2, _⟩ => ⟨S10000x2048, .f32⟩
  | .hbm, ⟨3, _⟩ => ⟨S256x16x8x2048, .f32⟩
  | .hbm, ⟨4, _⟩ => ⟨S256x128x2048, .f32⟩
  | .hbm, ⟨5, _⟩ => ⟨S1x256, .i32⟩
  | .hbm, ⟨6, _⟩ => ⟨S10000x256, .f32⟩
  | .hbm, ⟨7, _⟩ => ⟨S10000x256, .f32⟩
  | .hbm, ⟨8, _⟩ => ⟨S256x2048, .f32⟩
  | .hbm, ⟨9, _⟩ => ⟨S1x256, .f32⟩
  | .hbm, ⟨10, _⟩ => ⟨S256x10000, .f32⟩
  | .hbm, ⟨11, _⟩ => ⟨S256x10000, .f32⟩
  | .local _ .vmem, ⟨0, _⟩ => ⟨S1x256, .i32⟩
  | .local _ .vmem, ⟨1, _⟩ => ⟨S8x128x2048, .f32⟩
  | .local _ .vmem, ⟨2, _⟩ => ⟨S8x128x2048, .f32⟩
  | .local _ .vmem, ⟨3, _⟩ => ⟨S1024x2048, .f32⟩
  | .local _ .vmem, ⟨4, _⟩ => ⟨S1024x2048, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S8x2048, .f32⟩
  | .local _ .vmem, ⟨10, _⟩ => ⟨S8x2048, .f32⟩
  | .local _ .vmem, ⟨11, _⟩ => ⟨S1x256, .f32⟩
  | .local _ .vmem, ⟨12, _⟩ => ⟨S256x2048, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | _, _ => ⟨S256x2048x16x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![42], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c8_i32 : BitVec 32 := 8#32
  let v11 : BitVec 32 := Scalar.muli arg0 c8_i32
  let v12 : Index := Scalar.indexCast v11
  let c0_5 : Index := 0#32
  ![v12.toNat, 0]
def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def k0_cond5 (i : grid0.Coords) : BitVec 1 :=
  let arg0 : BitVec 32 := BitVec.ofNat 32 (i 0).val
  let c32_i32_2 : BitVec 32 := 32#32
  let v6 : BitVec 32 := Scalar.subi arg0 c32_i32_2
  let c9_i32 : BitVec 32 := 9#32
  let v43 : BitVec 1 := Scalar.cmpi .eq v6 c9_i32
  let v44 : BitVec 32 := Scalar.extui v43
  let c0_i32_21 : BitVec 32 := 0#32
  let v45 : BitVec 1 := Scalar.cmpi .ne v44 c0_i32_21
  v45

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S256x2048x16x8 : Shape := ⟨4, ![256, 2048, 16, 8]⟩
abbrev S256 : Shape := ⟨1, ![256]⟩
abbrev S10000x2048 : Shape := ⟨2, ![10000, 2048]⟩
abbrev S_ : Shape := ⟨0, ![]⟩
abbrev S256x2048 : Shape := ⟨2, ![256, 2048]⟩
abbrev S256x10000 : Shape := ⟨2, ![256, 10000]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S1x256 : Shape := ⟨2, ![1, 256]⟩

abbrev nBuf : Space → Nat
  | .hbm => 68
  | .vmem => 0
  | .smem => 0
  | _ => 0

abbrev bufTy : (tb : Table) → Fin (tcTables nBuf tb) → BufTy
  | .hbm, ⟨0, _⟩ => ⟨S256x2048x16x8, .f32⟩
  | .hbm, ⟨1, _⟩ => ⟨S256, .i32⟩
  | .hbm, ⟨2, _⟩ => ⟨S10000x2048, .f32⟩
  | .hbm, ⟨3, _⟩ => ⟨S_, .f32⟩
  | .hbm, ⟨4, _⟩ => ⟨S256x2048, .f32⟩
  | .hbm, ⟨5, _⟩ => ⟨S_, .f32⟩
  | .hbm, ⟨6, _⟩ => ⟨S256x2048, .f32⟩
  | .hbm, ⟨7, _⟩ => ⟨S256x2048, .f32⟩
  | .hbm, ⟨8, _⟩ => ⟨S256x10000, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S256x10000, .f32⟩
  | .hbm, ⟨16, _⟩ => ⟨S256x10000, .f32⟩
  | .hbm, ⟨17, _⟩ => ⟨S256x10000, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x10000, .f32⟩
  | .hbm, ⟨22, _⟩ => ⟨S256x10000, .f32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S256x1x1, .i32⟩
  | .hbm, ⟨32, _⟩ => ⟨S1, .i32⟩
  | .hbm, ⟨33, _⟩ => ⟨S_, .i32⟩
  | .hbm, ⟨34, _⟩ => ⟨S256x1x1, .i32⟩
  | .hbm, ⟨35, _⟩ => ⟨S256x1x1, .i1⟩
  | .hbm, ⟨36, _⟩ => ⟨S1x1x1, .i32⟩
  | .hbm, ⟨37, _⟩ => ⟨S256x1x1, .i32⟩
  | .hbm, ⟨38, _⟩ => ⟨S256x1x1, .i1⟩
  | .hbm, ⟨39, _⟩ => ⟨S256x1x1, .i1⟩
  | .hbm, ⟨40, _⟩ => ⟨S_, .i1⟩
  | .hbm, ⟨41, _⟩ => ⟨S256x1, .i1⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S_, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S1x256, .f32⟩
  | .hbm, ⟨65, _⟩ => ⟨S_, .f32⟩
  | .hbm, ⟨66, _⟩ => ⟨S256x10000, .f32⟩
  | .hbm, ⟨67, _⟩ => ⟨S256x10000, .f32⟩
  | _, _ => ⟨S256x2048x16x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_cst : Ref sig .tc := ⟨.hbm, 43, rfl⟩
abbrev main_call0_v14 : Ref sig .tc := ⟨.hbm, 44, rfl⟩
abbrev main_v16 : Ref sig .tc := ⟨.hbm, 45, rfl⟩
abbrev main_v17 : Ref sig .tc := ⟨.hbm, 46, rfl⟩
abbrev main_cst_4 : Ref sig .tc := ⟨.hbm, 47, rfl⟩
abbrev main_v18 : Ref sig .tc := ⟨.hbm, 48, rfl⟩
abbrev main_cst_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_cst_6 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_7 : Ref sig .tc := ⟨.hbm, 57, rfl⟩
abbrev main_v25 : Ref sig .tc := ⟨.hbm, 58, rfl⟩
abbrev main_v26 : Ref sig .tc := ⟨.hbm, 59, rfl⟩
abbrev main_cst_8 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_9 : Ref sig .tc := ⟨.hbm, 65, rfl⟩
abbrev main_v31 : Ref sig .tc := ⟨.hbm, 66, rfl⟩
abbrev main_v32 : Ref sig .tc := ⟨.hbm, 67, rfl⟩

abbrev nD : Nat := 1
abbrev τ : Topo := Topo.v7x

variable {F : FTy → Type} [FloatOps F]
-- ==== Proof.BodyIdeal.lean ====
/-
  The kernel's body, run once in each of the four ways a grid point can take.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Pipeline.Value
public import Idealize.ShloMosaic.Lib.VecWindow
public import Idealize.ShloMosaic.Lib.WritesUnit
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The four scratch buffers: the pooled rows; -/
abbrev sc0 : Memref sig .tc .vmem S256x2048 .f32 := Memref.whole cc0_scratch0
/-- The running maximum; -/
abbrev sc1 : Memref sig .tc .vmem S1x256 .f32 := Memref.whole cc0_scratch1
/-- the running sum; -/
abbrev sc2 : Memref sig .tc .vmem S1x256 .f32 := Memref.whole cc0_scratch2
/-- the target's logit. -/
abbrev sc3 : Memref sig .tc .vmem S1x256 .f32 := Memref.whole cc0_scratch3

/-- The point's number as the 32-bit word the body computes with. -/
abbrev wordOf (i : grid0.Coords) : BitVec 32 := BitVec.ofNat 32 (i 0).val
/-- The body's test for the first head step, -/
abbrev isFirst (i : grid0.Coords) : BitVec 1 :=
  Scalar.cmpi .ne (Scalar.extui (Scalar.cmpi .eq (Scalar.subi (wordOf i) 32#32) 0#32) : BitVec 32) 0#32
/-- and for a later one. -/
abbrev isLater (i : grid0.Coords) : BitVec 1 :=
  Scalar.cmpi .ne (Scalar.extui (Scalar.cmpi .sgt (Scalar.subi (wordOf i) 32#32) 0#32) : BitVec 32) 0#32

/-- Two zero offsets are the constant zero. -/
theorem zero2 : (![0, 0] : Fin 2 → ℕ) = fun _ => 0 := by decide
/-- Three zero offsets are the constant zero. -/
theorem zero3 : (![0, 0, 0] : Fin 3 → ℕ) = fun _ => 0 := by decide

/-- A buffer held at contents that read as `X` is owned at `X`. -/
theorem owned {S : Shape} {e : EltTy} (c : Dev nD) (a : Memref sig .tc .vmem S e) (f : a.view.ty.Contents (Elt F)) (X : Vec F S e)
    (h : View.read (Elt F) a.view f = X) :
    (iprop(View.loc (c : Thread nD τ) a.view ↦[a.view.set]{fullShare} f) : sProp 𝕄)
      ⊢ iprop(∃ f, ⌜View.read (Elt F) a.view f = X⌝ ∗ View.loc (c : Thread nD τ) a.view ↦[a.view.set]{fullShare} f) := by
  iintro H
  iexists f
  isplitr
  · ipureintro; exact h
  · iexact H

section Body

variable (c : Dev nD) (i : grid0.Coords)
  (a1 : Memref sig .tc .vmem S1x256 .i32) (h1 : a1.IsWhole) (a2 : Memref sig .tc .vmem S8x128x2048 .f32) (h2 : a2.IsWhole)
  (a3 : Memref sig .tc .vmem S1024x2048 .f32) (h3 : a3.IsWhole) (a4 : Memref sig .tc .vmem S1024x256 .f32) (h4 : a4.IsWhole)
  (a5 : Memref sig .tc .vmem S1024x256 .f32) (h5 : a5.IsWhole) (a6 : Memref sig .tc .vmem S8x2048 .f32) (h6 : a6.IsWhole)
  (a7 : Memref sig .tc .vmem S1x256 .f32) (h7 : a7.IsWhole)

/-- The body on the seven staging buffers and the four scratch buffers. -/
abbrev bodyOn : Prog (TpuEff nD τ sig (Elt F) Λ₀ .tc) PUnit :=
  cc0_pool_linear_softmax i a1 h1 a2 h2 a3 h3 a4 h4 a5 h5 a6 h6 a7 h7 sc0 (Memref.isWhole_whole _) sc1 (Memref.isWhole_whole _)
    sc2 (Memref.isWhole_whole _) sc3 (Memref.isWhole_whole _)

/-- The seven staging buffers and the four scratch buffers, each at its contents. -/
abbrev held (X1 : Vec F S1x256 .i32) (X2 : Vec F S8x128x2048 .f32) (X3 : Vec F S1024x2048 .f32) (X4 X5 : Vec F S1024x256 .f32)
    (X6 : Vec F S8x2048 .f32) (X7 : Vec F S1x256 .f32) (S0 : Vec F S256x2048 .f32) (S1 S2 S3 : Vec F S1x256 .f32) : sProp 𝕄 :=
  iprop(owns (c : Thread nD τ) a1 fullShare X1 ∗ owns (c : Thread nD τ) a2 fullShare X2 ∗ owns (c : Thread nD τ) a3 fullShare X3
    ∗ owns (c : Thread nD τ) a4 fullShare X4 ∗ owns (c : Thread nD τ) a5 fullShare X5 ∗ owns (c : Thread nD τ) a6 fullShare X6
    ∗ owns (c : Thread nD τ) a7 fullShare X7 ∗ owns (c : Thread nD τ) sc0 fullShare S0 ∗ owns (c : Thread nD τ) sc1 fullShare S1
    ∗ owns (c : Thread nD τ) sc2 fullShare S2 ∗ owns (c : Thread nD τ) sc3 fullShare S3)

variable (X1 : Vec F S1x256 .i32) (X2 : Vec F S8x128x2048 .f32) (X3 : Vec F S1024x2048 .f32) (X4 X5 : Vec F S1024x256 .f32)
  (X6 : Vec F S8x2048 .f32) (X7 : Vec F S1x256 .f32) (S0 : Vec F S256x2048 .f32) (S1 S2 S3 : Vec F S1x256 .f32)

/-- The pooled rows with the eight rows of pool step `i` replaced. -/
def putRows (hi : k0_cond1 i = 1#1) (S : Vec F S256x2048 .f32) (w : Vec F S8x2048 .f32) : Vec F S256x2048 .f32 :=
  View.read (Elt F) (sc0).view ((sc0).view.writes (Elt F) S [⟨Rect.unit (s := S256x2048) (k0_off1 i) S8x2048.size (k0_off1_inb i hi), w⟩])

/-- A pool step: the eight rows' means go to the output block and to their place among the pooled rows. -/
theorem run_pool (hc1 : k0_cond1 i = 1#1) (hc2 : ¬ k0_cond2 i = 1#1) (K : PUnit → sProp 𝕄) :
    iprop(held c a1 a2 a3 a4 a5 a6 a7 X1 X2 X3 X4 X5 X6 X7 S0 S1 S2 S3
        ∗ (held c a1 a2 a3 a4 a5 a6 a7 X1 X2 X3 X4 X5 (k0_pay1 X2) X7 (putRows i hc1 S0 (k0_pay2 X2)) S1 S2 S3 -∗ K ⟨⟩))
      ⊢ wp frame (wpE (defs₀ (F := F)) Variants.none c none) Set.univ (bodyOn i a1 h1 a2 h2 a3 h3 a4 h4 a5 h5 a6 h6 a7 h7) K := by
  simp only [bodyOn, cc0_pool_linear_softmax_eq_skeleton]; unfold cc0_pool_linear_softmax_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %q0, G0⟩, ⟨%g1, %q1, G1⟩, ⟨%g2, %q2, G2⟩, ⟨%g3, %q3, G3⟩⟩, Hk⟩
  have r1 := (View.readAt_full a1.view f1 inb_S1x256_S1x256_0_0).trans e1
  have r2 := (View.readAt_full a2.view f2 inb_S8x128x2048_S8x128x2048_0_0_0).trans e2
  have r3 := (View.readAt_full a3.view f3 inb_S1024x2048_S1024x2048_0_0).trans e3
  have p0 := (View.readAt_full (sc0).view g0 inb_S256x2048_S256x2048_0_0).trans q0
  have p1 := (View.readAt_full (sc1).view g1 inb_S1x256_S1x256_0_0).trans q1
  have p2 := (View.readAt_full (sc2).view g2 inb_S1x256_S1x256_0_0).trans q2
  have p3 := (View.readAt_full (sc3).view g3 inb_S1x256_S1x256_0_0).trans q3
  sl_exec
  sl_step
  iapply Hk
  isplitl [H1]; · iapply owned c _ _ _ e1; iexact H1
  isplitl [H2]; · iapply owned c _ _ _ e2; iexact H2
  isplitl [H3]; · iapply owned c _ _ _ e3; iexact H3
  isplitl [H4]; · iapply owned c _ _ _ e4; iexact H4
  isplitl [H5]; · iapply owned c _ _ _ e5; iexact H5
  isplitl [H6]; · iexists _; isplitr [H6]; rotate_left; · iexact H6
                  ipureintro; exact View.read_writes_full _ _ _ _ _
  isplitl [H7]; · iapply owned c _ _ _ e7; iexact H7
  isplitl [G0]; · iapply owned c _ _ _ (by rw [← q0]; rfl); iexact G0
  isplitl [G1]; · iapply owned c _ _ _ q1; iexact G1
  isplitl [G2]; · iapply owned c _ _ _ q2; iexact G2
  iapply owned c _ _ _ q3; iexact G3

/-- The first head step: the tile of logits goes to both outputs, and its column statistics start the three running rows. -/
theorem run_first (hc1 : ¬ k0_cond1 i = 1#1) (hc2 : k0_cond2 i = 1#1) (hf : isFirst i = 1#1) (hl : ¬ isLater i = 1#1)
    (hc5 : ¬ k0_cond5 i = 1#1) (K : PUnit → sProp 𝕄) :
    iprop(held c a1 a2 a3 a4 a5 a6 a7 X1 X2 X3 X4 X5 X6 X7 S0 S1 S2 S3
        ∗ (held c a1 a2 a3 a4 a5 a6 a7 X1 X2 X3 (k0_pay8 X3 S0) (k0_pay8 X3 S0) X6 X7 S0
            (k0_pay13 (wordOf i) X3 S0) (k0_pay14 (wordOf i) X3 S0) (k0_pay15 (wordOf i) X3 S0 X1) -∗ K ⟨⟩))
      ⊢ wp frame (wpE (defs₀ (F := F)) Variants.none c none) Set.univ (bodyOn i a1 h1 a2 h2 a3 h3 a4 h4 a5 h5 a6 h6 a7 h7) K := by
  simp only [bodyOn, cc0_pool_linear_softmax_eq_skeleton]; unfold cc0_pool_linear_softmax_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %q0, G0⟩, ⟨%g1, %q1, G1⟩, ⟨%g2, %q2, G2⟩, ⟨%g3, %q3, G3⟩⟩, Hk⟩
  have r1 := (View.readAt_full a1.view f1 inb_S1x256_S1x256_0_0).trans e1
  have r2 := (View.readAt_full a2.view f2 inb_S8x128x2048_S8x128x2048_0_0_0).trans e2
  have r3 := (View.readAt_full a3.view f3 inb_S1024x2048_S1024x2048_0_0).trans e3
  have p0 := (View.readAt_full (sc0).view g0 inb_S256x2048_S256x2048_0_0).trans q0
  have p1 := (View.readAt_full (sc1).view g1 inb_S1x256_S1x256_0_0).trans q1
  have p2 := (View.readAt_full (sc2).view g2 inb_S1x256_S1x256_0_0).trans q2
  have p3 := (View.readAt_full (sc3).view g3 inb_S1x256_S1x256_0_0).trans q3
  sl_exec
  sl_step
  iapply Hk
  isplitl [H1]; · iapply owned c _ _ _ e1; iexact H1
  isplitl [H2]; · iapply owned c _ _ _ e2; iexact H2
  isplitl [H3]; · iapply owned c _ _ _ e3; iexact H3
  isplitl [H4]; · iexists _; isplitr [H4]; rotate_left; · iexact H4
                  ipureintro; exact View.read_writes_full _ _ _ _ _
  isplitl [H5]; · iexists _; isplitr [H5]; rotate_left; · iexact H5
                  ipureintro; exact View.read_writes_full _ _ _ _ _
  isplitl [H6]; · iapply owned c _ _ _ e6; iexact H6
  isplitl [H7]; · iapply owned c _ _ _ e7; iexact H7
  isplitl [G0]; · iapply owned c _ _ _ q0; iexact G0
  isplitl [G1]; · iexists _; isplitr [G1]; rotate_left; · iexact G1
                  ipureintro; exact View.read_writes_full _ _ _ _ _
  isplitl [G2]; · iexists _; isplitr [G2]; rotate_left; · iexact G2
                  ipureintro; exact View.read_writes_full _ _ _ _ _
  iexists _; isplitr [G3]; rotate_left; · iexact G3
  ipureintro; exact View.read_writes_full _ _ _ _ _

/-- A head step between the first and the last: the tile goes to both outputs, and its statistics are merged into the running rows. -/
theorem run_mid (hc1 : ¬ k0_cond1 i = 1#1) (hc2 : k0_cond2 i = 1#1) (hf : ¬ isFirst i = 1#1) (hl : isLater i = 1#1)
    (hc5 : ¬ k0_cond5 i = 1#1) (K : PUnit → sProp 𝕄) :
    iprop(held c a1 a2 a3 a4 a5 a6 a7 X1 X2 X3 X4 X5 X6 X7 S0 S1 S2 S3
        ∗ (held c a1 a2 a3 a4 a5 a6 a7 X1 X2 X3 (k0_pay8 X3 S0) (k0_pay8 X3 S0) X6 X7 S0
            (k0_pay5 (k0_pay10 (wordOf i) X3 S0) S1)
            (k0_pay4 (k0_pay10 (wordOf i) X3 S0) (k0_pay11 (wordOf i) X3 S0) S1 S2)
            (k0_pay6 (k0_pay12 (wordOf i) X3 S0 X1) S3) -∗ K ⟨⟩))
      ⊢ wp frame (wpE (defs₀ (F := F)) Variants.none c none) Set.univ (bodyOn i a1 h1 a2 h2 a3 h3 a4 h4 a5 h5 a6 h6 a7 h7) K := by
  simp only [bodyOn, cc0_pool_linear_softmax_eq_skeleton]; unfold cc0_pool_linear_softmax_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %q0, G0⟩, ⟨%g1, %q1, G1⟩, ⟨%g2, %q2, G2⟩, ⟨%g3, %q3, G3⟩⟩, Hk⟩
  have r1 := (View.readAt_full a1.view f1 inb_S1x256_S1x256_0_0).trans e1
  have r2 := (View.readAt_full a2.view f2 inb_S8x128x2048_S8x128x2048_0_0_0).trans e2
  have r3 := (View.readAt_full a3.view f3 inb_S1024x2048_S1024x2048_0_0).trans e3
  have p0 := (View.readAt_full (sc0).view g0 inb_S256x2048_S256x2048_0_0).trans q0
  have p1 := (View.readAt_full (sc1).view g1 inb_S1x256_S1x256_0_0).trans q1
  have p2 := (View.readAt_full (sc2).view g2 inb_S1x256_S1x256_0_0).trans q2
  have p3 := (View.readAt_full (sc3).view g3 inb_S1x256_S1x256_0_0).trans q3
  sl_exec
  sl_step
  iapply Hk
  isplitl [H1]; · iapply owned c _ _ _ e1; iexact H1
  isplitl [H2]; · iapply owned c _ _ _ e2; iexact H2
  isplitl [H3]; · iapply owned c _ _ _ e3; iexact H3
  isplitl [H4]; · iexists _; isplitr [H4]; rotate_left; · iexact H4
                  ipureintro; exact View.read_writes_full _ _ _ _ _
  isplitl [H5]; · iexists _; isplitr [H5]; rotate_left; · iexact H5
                  ipureintro; exact View.read_writes_full _ _ _ _ _
  isplitl [H6]; · iapply owned c _ _ _ e6; iexact H6
  isplitl [H7]; · iapply owned c _ _ _ e7; iexact H7
  isplitl [G0]; · iapply owned c _ _ _ q0; iexact G0
  isplitl [G1]; · iexists _; isplitr [G1]; rotate_left; · iexact G1
                  ipureintro; exact View.read_writes_full _ _ _ _ _
  isplitl [G2]; · iexists _; isplitr [G2]; rotate_left; · iexact G2
                  ipureintro; exact View.read_writes_full _ _ _ _ _
  iexists _; isplitr [G3]; rotate_left; · iexact G3
  ipureintro; exact View.read_writes_full _ _ _ _ _

/-- The last head step does the same, and then computes the last output from the three running rows. -/
theorem run_last (hc1 : ¬ k0_cond1 i = 1#1) (hc2 : k0_cond2 i = 1#1) (hf : ¬ isFirst i = 1#1) (hl : isLater i = 1#1)
    (hc5 : k0_cond5 i = 1#1) (K : PUnit → sProp 𝕄) :
    iprop(held c a1 a2 a3 a4 a5 a6 a7 X1 X2 X3 X4 X5 X6 X7 S0 S1 S2 S3
        ∗ (held c a1 a2 a3 a4 a5 a6 a7 X1 X2 X3 (k0_pay8 X3 S0) (k0_pay8 X3 S0) X6
            (k0_pay7 (k0_pay6 (k0_pay12 (wordOf i) X3 S0 X1) S3)
              (k0_pay5 (k0_pay10 (wordOf i) X3 S0) S1)
              (k0_pay4 (k0_pay10 (wordOf i) X3 S0) (k0_pay11 (wordOf i) X3 S0) S1 S2))
            S0
            (k0_pay5 (k0_pay10 (wordOf i) X3 S0) S1)
            (k0_pay4 (k0_pay10 (wordOf i) X3 S0) (k0_pay11 (wordOf i) X3 S0) S1 S2)
            (k0_pay6 (k0_pay12 (wordOf i) X3 S0 X1) S3) -∗ K ⟨⟩))
      ⊢ wp frame (wpE (defs₀ (F := F)) Variants.none c none) Set.univ (bodyOn i a1 h1 a2 h2 a3 h3 a4 h4 a5 h5 a6 h6 a7 h7) K := by
  simp only [bodyOn, cc0_pool_linear_softmax_eq_skeleton]; unfold cc0_pool_linear_softmax_skel
  unfold held owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%g0, %q0, G0⟩, ⟨%g1, %q1, G1⟩, ⟨%g2, %q2, G2⟩, ⟨%g3, %q3, G3⟩⟩, Hk⟩
  have r1 := (View.readAt_full a1.view f1 inb_S1x256_S1x256_0_0).trans e1
  have r2 := (View.readAt_full a2.view f2 inb_S8x128x2048_S8x128x2048_0_0_0).trans e2
  have r3 := (View.readAt_full a3.view f3 inb_S1024x2048_S1024x2048_0_0).trans e3
  have p0 := (View.readAt_full (sc0).view g0 inb_S256x2048_S256x2048_0_0).trans q0
  have p1 := (View.readAt_full (sc1).view g1 inb_S1x256_S1x256_0_0).trans q1
  have p2 := (View.readAt_full (sc2).view g2 inb_S1x256_S1x256_0_0).trans q2
  have p3 := (View.readAt_full (sc3).view g3 inb_S1x256_S1x256_0_0).trans q3
  sl_exec
  sl_step
  iapply Hk
  isplitl [H1]; · iapply owned c _ _ _ e1; iexact H1
  isplitl [H2]; · iapply owned c _ _ _ e2; iexact H2
  isplitl [H3]; · iapply owned c _ _ _ e3; iexact H3
  isplitl [H4]; · iexists _; isplitr [H4]; rotate_left; · iexact H4
                  ipureintro; exact View.read_writes_full _ _ _ _ _
  isplitl [H5]; · iexists _; isplitr [H5]; rotate_left; · iexact H5
                  ipureintro; exact View.read_writes_full _ _ _ _ _
  isplitl [H6]; · iapply owned c _ _ _ e6; iexact H6
  isplitl [H7]; · iexists _; isplitr [H7]; rotate_left; · iexact H7
                  ipureintro; refine (View.read_writes_full _ _ _ _ _).trans ?_
                  refine congr (congrArg₂ k0_pay7 ?_ ?_) ?_
                  · exact View.readCov_full (sc3).view _ _ _ _
                  · exact View.readCov_full (sc1).view _ _ _ _
                  · exact View.readCov_full (sc2).view _ _ _ _
  isplitl [G0]; · iapply owned c _ _ _ q0; iexact G0
  isplitl [G1]; · iexists _; isplitr [G1]; rotate_left; · iexact G1
                  ipureintro; try sl_unfold_run_names
                  exact View.read_writes_full _ _ _ _ _
  isplitl [G2]; · iexists _; isplitr [G2]; rotate_left; · iexact G2
                  ipureintro; try sl_unfold_run_names
                  exact View.read_writes_full _ _ _ _ _
  iexists _; isplitr [G3]; rotate_left; · iexact G3
  ipureintro; try sl_unfold_run_names
  exact View.read_writes_full _ _ _ _ _

end Body

/-! ## Which way a point goes -/

/-- Points 0 to 31 are pool steps, -/
theorem pool_point (t : Fin grid0.N) (h : t.val < 32) : k0_cond1 (grid0.coords t) = 1#1 ∧ ¬ k0_cond2 (grid0.coords t) = 1#1 := by
  revert t; decide +kernel
/-- points from 32 on are head steps, -/
theorem head_point (t : Fin grid0.N) (h : 32 ≤ t.val) : ¬ k0_cond1 (grid0.coords t) = 1#1 ∧ k0_cond2 (grid0.coords t) = 1#1 := by
  revert t; decide +kernel
/-- point 32 is the first of them, -/
theorem first_point (t : Fin grid0.N) (h : t.val = 32) : isFirst (grid0.coords t) = 1#1 ∧ ¬ isLater (grid0.coords t) = 1#1 := by
  revert t; decide +kernel
/-- the points after it are later ones, -/
theorem later_point (t : Fin grid0.N) (h : 33 ≤ t.val) : ¬ isFirst (grid0.coords t) = 1#1 ∧ isLater (grid0.coords t) = 1#1 := by
  revert t; decide +kernel
/-- and point 41 is the last. -/
theorem last_point (t : Fin grid0.N) : k0_cond5 (grid0.coords t) = 1#1 ↔ t.val = 41 := by
  revert t; decide +kernel

end Cert.KernelIdeal.Hand

end
-- ==== Proof.FrameIdeal.lean ====
/-
  The kernel over the extended reals runs to the end, whatever it computes, and leaves its three arguments as they were.
  Nothing about the contents of a staging buffer or of the scratch is kept from one point to the next.
-/
module

public import proofs.«01_k».proof.Proof.BodyIdeal
public import Idealize.ShloMosaic.Lib.Pipeline.FrameBody
public import proofs.«01_k».proof.Proof.Gen.KernelIdeal.Launch
public import proofs.«01_k».proof.Proof.Gen.KernelIdeal.Points

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- No window's contents are kept. -/
def forgets : Fin 7 → Bool := fun _ => true

/-- The proof data on core `c`: the arrays as the region finds them, nothing named after a point. -/
def datA (c : Dev nD) : Dat τ (Elt F) Unit ℕ (UR sig nD τ) ℕ cfg0 c where
  A w := V0 m c (Proc.devRef .tc (Pipeline.arrRef cfg0.spec w))
  after w t := Pipeline.Dat.unnamed (cfg := cfg0) w t
  Φ _ := Pipeline.ΦA cfg0.spec c
  q _ := fullShare
  owed _ := 0

/-- The same for the only region. -/
def datsA (p : Fin 1) (c : Dev nD) : Dat τ (Elt F) Unit ℕ (UR sig nD τ) ℕ (cfgs p) c :=
  match p with | 0 => datA m c

/-- A memref at some contents. -/
abbrev someAt {S : Shape} {e : EltTy} (c : Dev nD) (a : Memref sig .tc .vmem S e) : sProp 𝕄 :=
  iprop(∃ X, owns (c : Thread nD τ) a fullShare X)

section Body

variable (c : Dev nD)
  (a1 : Memref sig .tc .vmem S1x256 .i32) (h1 : a1.IsWhole) (a2 : Memref sig .tc .vmem S8x128x2048 .f32) (h2 : a2.IsWhole)
  (a3 : Memref sig .tc .vmem S1024x2048 .f32) (h3 : a3.IsWhole) (a4 : Memref sig .tc .vmem S1024x256 .f32) (h4 : a4.IsWhole)
  (a5 : Memref sig .tc .vmem S1024x256 .f32) (h5 : a5.IsWhole) (a6 : Memref sig .tc .vmem S8x2048 .f32) (h6 : a6.IsWhole)
  (a7 : Memref sig .tc .vmem S1x256 .f32) (h7 : a7.IsWhole)

/-- The seven staging buffers and the four scratch buffers, each at some contents. -/
abbrev heldAny : sProp 𝕄 :=
  iprop(someAt c a1 ∗ someAt c a2 ∗ someAt c a3 ∗ someAt c a4 ∗ someAt c a5 ∗ someAt c a6 ∗ someAt c a7
    ∗ someAt c sc0 ∗ someAt c sc1 ∗ someAt c sc2 ∗ someAt c sc3)

/-- A memref held at given contents is held at some contents. -/
theorem some_of_owns {S : Shape} {e : EltTy} (a : Memref sig .tc .vmem S e) (X : Vec F S e) :
    owns (c : Thread nD τ) a fullShare X ⊢ (someAt c a : sProp 𝕄) := by
  iintro H; iexists X; iexact H

/-- Memrefs held at given contents are all held at some contents. -/
theorem any_of_held (X1 : Vec F S1x256 .i32) (X2 : Vec F S8x128x2048 .f32) (X3 : Vec F S1024x2048 .f32) (X4 X5 : Vec F S1024x256 .f32)
    (X6 : Vec F S8x2048 .f32) (X7 : Vec F S1x256 .f32) (S0 : Vec F S256x2048 .f32) (S1 S2 S3 : Vec F S1x256 .f32) :
    held c a1 a2 a3 a4 a5 a6 a7 X1 X2 X3 X4 X5 X6 X7 S0 S1 S2 S3 ⊢ (heldAny c a1 a2 a3 a4 a5 a6 a7 : sProp 𝕄) :=
  BIClass.sep_mono (some_of_owns c _ _) <| BIClass.sep_mono (some_of_owns c _ _) <| BIClass.sep_mono (some_of_owns c _ _) <| BIClass.sep_mono (some_of_owns c _ _) <|
  BIClass.sep_mono (some_of_owns c _ _) <| BIClass.sep_mono (some_of_owns c _ _) <| BIClass.sep_mono (some_of_owns c _ _) <| BIClass.sep_mono (some_of_owns c _ _) <|
  BIClass.sep_mono (some_of_owns c _ _) <| BIClass.sep_mono (some_of_owns c _ _) <| some_of_owns c _ _

/-- At every point the body runs from any contents to some contents. -/
theorem run_any (t : Fin grid0.N) (K : PUnit → sProp 𝕄) :
    iprop(heldAny c a1 a2 a3 a4 a5 a6 a7 ∗ (heldAny c a1 a2 a3 a4 a5 a6 a7 -∗ K ⟨⟩))
      ⊢ wp frame (wpE (defs₀ (F := F)) Variants.none c none) Set.univ
          (bodyOn (grid0.coords t) a1 h1 a2 h2 a3 h3 a4 h4 a5 h5 a6 h6 a7 h7) K := by
  have key : ∀ (X1 : Vec F S1x256 .i32) (X2 : Vec F S8x128x2048 .f32) (X3 : Vec F S1024x2048 .f32) (X4 X5 : Vec F S1024x256 .f32)
      (X6 : Vec F S8x2048 .f32) (X7 : Vec F S1x256 .f32) (S0 : Vec F S256x2048 .f32) (S1 S2 S3 : Vec F S1x256 .f32),
      iprop(held c a1 a2 a3 a4 a5 a6 a7 X1 X2 X3 X4 X5 X6 X7 S0 S1 S2 S3 ∗ (heldAny c a1 a2 a3 a4 a5 a6 a7 -∗ K ⟨⟩))
        ⊢ wp frame (wpE (defs₀ (F := F)) Variants.none c none) Set.univ
          (bodyOn (grid0.coords t) a1 h1 a2 h2 a3 h3 a4 h4 a5 h5 a6 h6 a7 h7) K := by
    intro X1 X2 X3 X4 X5 X6 X7 S0 S1 S2 S3
    rcases Nat.lt_or_ge t.val 32 with h | h
    · obtain ⟨p1, p2⟩ := pool_point t h
      exact (sep_mono_right (wand_mono_left (any_of_held c a1 a2 a3 a4 a5 a6 a7 _ _ _ _ _ _ _ _ _ _ _))).trans
        (run_pool c _ a1 h1 a2 h2 a3 h3 a4 h4 a5 h5 a6 h6 a7 h7 X1 X2 X3 X4 X5 X6 X7 S0 S1 S2 S3 p1 p2 K)
    · obtain ⟨p1, p2⟩ := head_point t h
      rcases Nat.eq_or_lt_of_le h with h' | h'
      · obtain ⟨p3, p4⟩ := first_point t h'.symm
        exact (sep_mono_right (wand_mono_left (any_of_held c a1 a2 a3 a4 a5 a6 a7 _ _ _ _ _ _ _ _ _ _ _))).trans
          (run_first c _ a1 h1 a2 h2 a3 h3 a4 h4 a5 h5 a6 h6 a7 h7 X1 X2 X3 X4 X5 X6 X7 S0 S1 S2 S3 p1 p2 p3 p4
            (fun h5 => by have := (last_point t).mp h5; omega) K)
      · obtain ⟨p3, p4⟩ := later_point t h'
        by_cases p5 : k0_cond5 (grid0.coords t) = 1#1
        · exact (sep_mono_right (wand_mono_left (any_of_held c a1 a2 a3 a4 a5 a6 a7 _ _ _ _ _ _ _ _ _ _ _))).trans
            (run_last c _ a1 h1 a2 h2 a3 h3 a4 h4 a5 h5 a6 h6 a7 h7 X1 X2 X3 X4 X5 X6 X7 S0 S1 S2 S3 p1 p2 p3 p4 p5 K)
        · exact (sep_mono_right (wand_mono_left (any_of_held c a1 a2 a3 a4 a5 a6 a7 _ _ _ _ _ _ _ _ _ _ _))).trans
            (run_mid c _ a1 h1 a2 h2 a3 h3 a4 h4 a5 h5 a6 h6 a7 h7 X1 X2 X3 X4 X5 X6 X7 S0 S1 S2 S3 p1 p2 p3 p4 p5 K)
  iintro ⟨⟨⟨%X1, H1⟩, ⟨%X2, H2⟩, ⟨%X3, H3⟩, ⟨%X4, H4⟩, ⟨%X5, H5⟩, ⟨%X6, H6⟩, ⟨%X7, H7⟩, ⟨%S0, G0⟩, ⟨%S1, G1⟩, ⟨%S2, G2⟩, ⟨%S3, G3⟩⟩, Hk⟩
  iapply key X1 X2 X3 X4 X5 X6 X7 S0 S1 S2 S3
  unfold held
  isplitr [Hk]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3
  · iexact Hk

end Body

/-- The body's definition at a point is the body at that point. -/
theorem defs₀_row (t : Fin grid0.N) : defs₀ (F := F) .tc cfg0.body (cfg0.bodyArgs t (cfg0.slots t)) = bodyAt0 t := by
  unfold defs₀; rw [Defs.onTc_tc]

/-- The scratch buffers at some contents, as memrefs. -/
theorem scratch_eq (c : Dev nD) :
    (Pipeline.scopedRest (Ix := Unit) (Name := ℕ) (U := UR sig nD τ) (Lvl := ℕ) (Val := Elt F) spec0 c : sProp 𝕄)
      = iprop(someAt c sc0 ∗ someAt c sc1 ∗ someAt c sc2 ∗ someAt c sc3) := by
  rw [scopedRest0_eq]; simp only [someAt, sc0, sc1, sc2, sc3, owns_whole]; rfl

/-- What a point is given and gives back. -/
abbrev atPoint (c : Dev nD) (t : Fin cfg0.N) (u : Fin (cfg0.N + 1)) : sProp 𝕄 :=
  iprop((datA m c).Φ u ∗ (datA m c).owesAt () u
    ∗ someAt c (win0_0.stage (cfg0.slots t 0)) ∗ someAt c (win0_1.stage (cfg0.slots t 1)) ∗ someAt c (win0_2.stage (cfg0.slots t 2))
    ∗ someAt c (win0_3.stage (cfg0.slots t 3)) ∗ someAt c (win0_4.stage (cfg0.slots t 4)) ∗ someAt c (win0_5.stage (cfg0.slots t 5))
    ∗ someAt c (win0_6.stage (cfg0.slots t 6)))

/-- The body takes what a point is given, at any contents, to what it gives back. -/
theorem sound_any (c : Dev nD) (t : Fin cfg0.N) :
    atPoint m c t t.castSucc ⊢ wp frame (wpE (defs₀ (F := F)) Variants.none c none) Set.univ (bodyAt0 t) fun _ => atPoint m c t t.succ := by
  unfold atPoint
  rw [show (datA m c).owesAt () t.succ = (datA m c).owesAt () t.castSucc from rfl]
  rw [show (datA m c).Φ t.succ = Pipeline.ΦA spec0 c from rfl, show (datA m c).Φ t.castSucc = Pipeline.ΦA spec0 c from rfl]
  unfold Pipeline.ΦA
  rw [scratch_eq]
  iintro ⟨⟨⟨G0, G1, G2, G3⟩, Hr⟩, Ho, H1, H2, H3, H4, H5, H6, H7⟩
  iapply run_any c _ (hstage0_0 ((cfg0.slots t 0).cast nbuf0_0)) _ (hstage0_1 ((cfg0.slots t 1).cast nbuf0_1)) _
    (hstage0_2 ((cfg0.slots t 2).cast nbuf0_2)) _ (hstage0_3 ((cfg0.slots t 3).cast nbuf0_3)) _ (hstage0_4 ((cfg0.slots t 4).cast nbuf0_4)) _
    (hstage0_5 ((cfg0.slots t 5).cast nbuf0_5)) _ (hstage0_6 ((cfg0.slots t 6).cast nbuf0_6)) t
  isplitr [Hr Ho]
  · unfold heldAny
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3
  · iintro ⟨H1, H2, H3, H4, H5, H6, H7, G0, G1, G2, G3⟩
    isplitl [G0 G1 G2 G3 Hr]
    · isplitr [Hr]
      · isplitl [G0]; · iexact G0
        isplitl [G1]; · iexact G1
        isplitl [G2]; · iexact G2
        iexact G3
      · iexact Hr
    isplitl [Ho]; · iexact Ho
    isplitl [H1]; · iexact H1
    isplitl [H2]; · iexact H2
    isplitl [H3]; · iexact H3
    isplitl [H4]; · iexact H4
    isplitl [H5]; · iexact H5
    isplitl [H6]; · iexact H6
    iexact H7

/-- The body's obligation at every point, whatever the contents. -/
theorem obligation (c : Dev nD) : BodyObligationLoose (datsA (F := F) m 0 c) (defs₀ (F := F)) Variants.none () Set.univ forgets := fun t => by
  rw [bigSep_W0, bigSep_W0, defs₀_row]
  exact triple_restated (sound_any m c t) rfl .rfl fun _ => .rfl

/-- The buffers the lines after the region write: the two transposed results. -/
def lateBufs : Finset (Ref sig .tc) := {main_v4, main_v5}

/-- The lines after the region write only the two transposed results. -/
theorem late_writes : ∀ ops ∈ ([hostOps1] : List (List (HloOp τ sig (Elt F)))), ∀ op ∈ ops, ∀ b : Ref sig .tc,
    Proc.devRef .tc b ∈ op.writes → b ∈ lateBufs := by
  intro ops hops op hop b hb
  simp only [List.mem_cons, List.mem_nil_iff, or_false] at hops
  subst hops
  simp only [hostOps1, List.mem_cons, List.mem_nil_iff, or_false] at hop
  rcases hop with rfl | rfl
  all_goals
    simp only [StableHlo.unary_writes, Finset.mem_singleton] at hb
    have := Proc.devRef_injective .tc hb
    subst this
    decide

set_option backward.isDefEq.respectTransparency.types false in
/-- Every fair run of @main ends, with the arguments and the semaphores as they started. -/
theorem run_main :
    θ_run defs (onTc (τ := τ) (main (F := F))) (s₀ m ρ)
      (fun r => Pipeline.RDat.FramePostR (cfgs 0) (fun c => (datsA m 0 c).toRForget forgets) lateBufs (fun c b => V0 m c (Proc.devRef .tc b)) r
        ∧ r.2.sem = fun _ => 0) :=
  Pipeline.θ_run_frame_around_T_forget cfgs (datsA m) (0 : Fin 1) launch0 defs₀ Variants.none forgets lateBufs m ρ main
    (hbody := obligation m) (hshare := fun c => (datsA m 0 c).share_full fun _ => rfl) (howed := fun _ _ => rfl)
    (V₀ := V0 m) (opss := [hostOps1]) (hsub := sfx_sub) (hfresh := sfx_fresh) (hkeep := sfx_keeps) (hT := late_writes)
    (hmain := hmain m Variants.none) (hA := fun _ _ => rfl) (hΦ := fun _ _ => rfl) (Q' := _) (hQ' := fun _ h => h)

/-- Every fair run of @main ends with the arguments as they were and the semaphores at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
     ((h.1 c).2 main_arg1 (Finset.mem_sdiff.mpr ⟨Pipeline.mem_restRefs_of main_arg1 (by decide) (by decide), by decide⟩)).trans (V_main_arg1 m c),
     (h.1.arr_in c 2 rfl).trans (V_main_arg2 m c)⟩, h.2⟩) (run_main m ρ)

end Cert.KernelIdeal.Hand

end
-- ==== Proof.Online.lean ====
/-
  Sums of exponentials relative to a maximum, over the extended reals: what a softmax that visits its classes block by block keeps
  is the maximum, the sum of the exponentials relative to it and the target's value over the classes visited so far.
-/
module

public import Idealize.ShloMosaic.Lib.Pointwise

@[expose] public section

noncomputable section

namespace Cert.Online

open Idealize.ShloMosaic

/-- An exponential is never negative. -/
theorem exp_nonneg (x : EReal) : 0 ≤ Ideal.exp x := by
  induction x using EReal.rec with
  | bot => exact le_refl _
  | coe r => exact EReal.coe_nonneg.mpr (Real.exp_pos r).le
  | top => exact le_top

/-- The exponential of −∞ is zero. -/
theorem exp_bot : Ideal.exp ⊥ = 0 := rfl

/-- The exponential of a real is the real one. -/
theorem exp_coe (r : ℝ) : Ideal.exp (r : EReal) = ((Real.exp r : ℝ) : EReal) := rfl

/-- The exponential of −∞ less anything is zero. -/
theorem exp_bot_sub (c : EReal) : Ideal.exp (⊥ - c) = 0 := by
  rw [sub_eq_add_neg, EReal.bot_add, exp_bot]

/-- The exponential of anything less +∞ is zero. -/
theorem exp_sub_top (c : EReal) : Ideal.exp (c - ⊤) = 0 := by
  rw [sub_eq_add_neg, EReal.neg_top, EReal.add_bot, exp_bot]

/-- Exponentials relative to `a`, scaled to be relative to the larger `b`. -/
theorem exp_rescale (x a b : EReal) (hx : x ≤ a) (hb : a ≤ b) :
    Ideal.exp (x - a) * Ideal.exp (a - b) = Ideal.exp (x - b) := by
  induction x using EReal.rec with
  | bot => rw [exp_bot_sub, exp_bot_sub, zero_mul]
  | top =>
    obtain rfl : a = ⊤ := top_le_iff.mp hx
    obtain rfl : b = ⊤ := top_le_iff.mp hb
    rw [exp_sub_top, mul_zero]
  | coe u =>
    induction b using EReal.rec with
    | bot =>
      obtain rfl : a = ⊥ := le_bot_iff.mp hb
      simp at hx
    | top => rw [exp_sub_top, exp_sub_top, mul_zero]
    | coe r =>
      induction a using EReal.rec with
      | bot => simp at hx
      | top => simp at hb
      | coe s =>
        rw [← EReal.coe_sub, ← EReal.coe_sub, ← EReal.coe_sub, exp_coe, exp_coe, exp_coe, ← EReal.coe_mul, ← Real.exp_add]
        congr 2; ring

/-- A sum of nonnegative terms times a factor. -/
theorem sum_mul_right {ι : Type} (S : Finset ι) (f : ι → EReal) (hf : ∀ i, 0 ≤ f i) (c : EReal) :
    (∑ i ∈ S, f i) * c = ∑ i ∈ S, f i * c := by
  classical
  induction S using Finset.induction with
  | empty => simp
  | insert i S hi ih =>
    rw [Finset.sum_insert hi, Finset.sum_insert hi, ← ih]
    exact EReal.right_distrib_of_nonneg (hf i) (Finset.sum_nonneg fun j _ => hf j)

/-- The sum of the exponentials relative to `a`, scaled to be relative to the larger `b`. -/
theorem sum_rescale {ι : Type} (S : Finset ι) (f : ι → EReal) (a b : EReal) (ha : ∀ i ∈ S, f i ≤ a) (hb : a ≤ b) :
    (∑ i ∈ S, Ideal.exp (f i - a)) * Ideal.exp (a - b) = ∑ i ∈ S, Ideal.exp (f i - b) := by
  rw [sum_mul_right S _ (fun _ => exp_nonneg _)]
  exact Finset.sum_congr rfl fun i hi => exp_rescale _ _ _ (ha i hi) hb

/-! ## Classes visited block by block -/

variable {N : ℕ}

/-- The classes of the first `k` blocks of 1024. -/
def seen (N k : ℕ) : Finset (Fin N) := Finset.univ.filter fun n => n.val < 1024 * k

/-- The classes of block `k`. -/
def block (N k : ℕ) : Finset (Fin N) := Finset.univ.filter fun n => 1024 * k ≤ n.val ∧ n.val < 1024 * (k + 1)

/-- The greatest value over the classes of the first `k` blocks. -/
def top (f : Fin N → EReal) (k : ℕ) : EReal := (seen N k).sup f

/-- The sum of the exponentials relative to `top` over the same classes. -/
def mass (f : Fin N → EReal) (k : ℕ) : EReal := ∑ n ∈ seen N k, Ideal.exp (f n - top f k)

/-- The greatest value over those of the classes that `p` picks. -/
def picked (f : Fin N → EReal) (p : Fin N → Prop) [DecidablePred p] (k : ℕ) : EReal := ((seen N k).filter p).sup f

/-- The value in row `r` of block `k`, and −∞ where the block overhangs the classes. -/
def cell (f : Fin N → EReal) (k : ℕ) (r : Fin 1024) : EReal := if h : 1024 * k + r.val < N then f ⟨1024 * k + r.val, h⟩ else ⊥

/-- One more block's classes are added to those seen. -/
theorem seen_succ (k : ℕ) : seen N (k + 1) = seen N k ∪ block N k := by
  ext n; simp only [seen, block, Finset.mem_union, Finset.mem_filter, Finset.mem_univ, true_and]; omega

/-- They were not seen before. -/
theorem seen_disjoint (k : ℕ) : Disjoint (seen N k) (block N k) := by
  rw [Finset.disjoint_left]; intro n
  simp only [seen, block, Finset.mem_filter, Finset.mem_univ, true_and]; omega

/-- The first block's classes are those seen after it. -/
theorem seen_one : seen N 1 = block N 0 := by
  ext n; simp only [seen, block, Finset.mem_filter, Finset.mem_univ, true_and]; omega

/-- A row's class. -/
theorem row_of_mem {k : ℕ} {n : Fin N} (h : n ∈ block N k) : ∃ r : Fin 1024, 1024 * k + r.val = n.val := by
  simp only [block, Finset.mem_filter, Finset.mem_univ, true_and] at h
  exact ⟨⟨n.val - 1024 * k, by omega⟩, by simp only; omega⟩

/-- A row that is a class's belongs to its block. -/
theorem mem_block {k : ℕ} {r : Fin 1024} (h : 1024 * k + r.val < N) : (⟨1024 * k + r.val, h⟩ : Fin N) ∈ block N k := by
  simp only [block, Finset.mem_filter, Finset.mem_univ, true_and]; omega

/-- The greatest of a block's rows is the greatest of its classes. -/
theorem sup_cells (f : Fin N → EReal) (p : Fin N → Prop) [DecidablePred p] (k : ℕ) (g : Fin 1024 → EReal)
    (hg : ∀ r (h : 1024 * k + r.val < N), g r = if p ⟨1024 * k + r.val, h⟩ then f ⟨1024 * k + r.val, h⟩ else ⊥)
    (hg' : ∀ r : Fin 1024, ¬ 1024 * k + r.val < N → g r = ⊥) :
    Finset.univ.sup g = ((block N k).filter p).sup f := by
  apply le_antisymm
  · refine Finset.sup_le fun r _ => ?_
    by_cases h : 1024 * k + r.val < N
    · rw [hg r h]; split
      · next hp => exact Finset.le_sup (f := f) (Finset.mem_filter.mpr ⟨mem_block h, hp⟩)
      · exact bot_le
    · rw [hg' r h]; exact bot_le
  · refine Finset.sup_le fun n hn => ?_
    obtain ⟨hb, hp⟩ := Finset.mem_filter.mp hn
    obtain ⟨r, hr⟩ := row_of_mem hb
    have h : 1024 * k + r.val < N := hr ▸ n.isLt
    have e : (⟨1024 * k + r.val, h⟩ : Fin N) = n := Fin.ext hr
    have := hg r h
    rw [e, if_pos hp] at this
    rw [← this]; exact Finset.le_sup (f := g) (Finset.mem_univ r)

/-- The greatest value over a block's rows is the greatest over its classes. -/
theorem sup_cell (f : Fin N → EReal) (k : ℕ) : Finset.univ.sup (cell f k) = (block N k).sup f := by
  have := sup_cells f (fun _ => True) k (cell f k) (fun r h => by rw [if_pos trivial]; exact dif_pos h) (fun r h => dif_neg h)
  rwa [Finset.filter_true_of_mem (fun _ _ => trivial)] at this

/-- A sum over a block's rows of a function that vanishes at −∞ is the sum over its classes. -/
theorem sum_cell (f : Fin N → EReal) (k : ℕ) (φ : EReal → EReal) (hφ : φ ⊥ = 0) :
    ∑ r, φ (cell f k r) = ∑ n ∈ block N k, φ (f n) := by
  classical
  rw [← Finset.sum_filter_add_sum_filter_not Finset.univ (fun r : Fin 1024 => 1024 * k + r.val < N)]
  rw [Finset.sum_eq_zero (s := Finset.univ.filter fun r : Fin 1024 => ¬ 1024 * k + r.val < N), add_zero]
  · refine Finset.sum_bij (fun r hr => (⟨1024 * k + r.val, (Finset.mem_filter.mp hr).2⟩ : Fin N)) ?_ ?_ ?_ ?_
    · intro r hr; exact mem_block _
    · intro r _ r' _ h; exact Fin.ext (by have := congrArg Fin.val h; simp only at this; omega)
    · intro n hn
      obtain ⟨r, hr⟩ := row_of_mem hn
      exact ⟨r, Finset.mem_filter.mpr ⟨Finset.mem_univ _, by rw [hr]; exact n.isLt⟩, Fin.ext hr⟩
    · intro r hr; unfold cell; rw [dif_pos (Finset.mem_filter.mp hr).2]
  · intro r hr; unfold cell; rw [dif_neg (Finset.mem_filter.mp hr).2, hφ]

/-- The maximum after one more block. -/
theorem top_succ (f : Fin N → EReal) (k : ℕ) : top f (k + 1) = max (top f k) (Finset.univ.sup (cell f k)) := by
  unfold top; rw [seen_succ, Finset.sup_union, sup_cell]

/-- The maximum after the first block. -/
theorem top_one (f : Fin N → EReal) : top f 1 = Finset.univ.sup (cell f 0) := by
  unfold top; rw [seen_one, sup_cell]

/-- The mass after one more block: both parts scaled to the new maximum. -/
theorem mass_succ (f : Fin N → EReal) (k : ℕ) :
    mass f (k + 1) = mass f k * Ideal.exp (top f k - top f (k + 1))
      + (∑ r, Ideal.exp (cell f k r - Finset.univ.sup (cell f k))) * Ideal.exp (Finset.univ.sup (cell f k) - top f (k + 1)) := by
  rw [sum_cell f k (fun x => Ideal.exp (x - Finset.univ.sup (cell f k))) (exp_bot_sub _)]
  unfold mass
  rw [sum_rescale _ f (top f k) (top f (k + 1)) (fun i hi => Finset.le_sup (f := f) hi) (by rw [top_succ]; exact le_max_left _ _),
    sum_rescale _ f _ (top f (k + 1)) (fun i hi => by rw [sup_cell]; exact Finset.le_sup (f := f) hi) (by rw [top_succ]; exact le_max_right _ _),
    seen_succ, Finset.sum_union (seen_disjoint k)]

/-- The mass after the first block. -/
theorem mass_one (f : Fin N → EReal) : mass f 1 = ∑ r, Ideal.exp (cell f 0 r - Finset.univ.sup (cell f 0)) := by
  rw [sum_cell f 0 (fun x => Ideal.exp (x - Finset.univ.sup (cell f 0))) (exp_bot_sub _)]
  unfold mass; rw [top_one, seen_one]

/-- The picked maximum after one more block. -/
theorem picked_succ (f : Fin N → EReal) (p : Fin N → Prop) [DecidablePred p] (k : ℕ) :
    picked f p (k + 1) = max (picked f p k) (((block N k).filter p).sup f) := by
  unfold picked; rw [seen_succ, Finset.filter_union, Finset.sup_union]

/-- The picked maximum after the first block. -/
theorem picked_one (f : Fin N → EReal) (p : Fin N → Prop) [DecidablePred p] : picked f p 1 = ((block N 0).filter p).sup f := by
  unfold picked; rw [seen_one]

/-- With every class visited. -/
theorem seen_all {k : ℕ} (h : N ≤ 1024 * k) : seen N k = Finset.univ :=
  Finset.filter_true_of_mem fun n _ => by have := n.isLt; omega

/-- With every class visited and one class picked, the picked maximum is that class's value. -/
theorem picked_all (f : Fin N → EReal) (p : Fin N → Prop) [DecidablePred p] {k : ℕ} (h : N ≤ 1024 * k) (t : Fin N)
    (ht : ∀ n, p n ↔ n = t) : picked f p k = f t := by
  unfold picked; rw [seen_all h]
  have : Finset.univ.filter p = {t} := by ext n; simp [ht]
  rw [this, Finset.sup_singleton]

/-- A maximum taken from −∞ on. -/
theorem fold_max {ι : Type} (S : Finset ι) (f : ι → EReal) : S.fold max ⊥ f = S.sup f := by
  classical
  induction S using Finset.induction with
  | empty => simp
  | insert i S hi ih => rw [Finset.fold_insert hi, Finset.sup_insert, ih]

end Cert.Online

end
-- ==== Proof.Tile.lean ====
/-
  What the kernel's body computes at one grid point, read element by element over the extended reals.
-/
module

public import proofs.«01_k».proof.Proof.Online
public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen Cert.Online
open Idealize.ShloMosaic Idealize.ShloMosaic.TcCoe

/-- The pooled features: the mean of the 128 positions of each channel. -/
def pooled (x : FVec Ideal S256x128x2048 .f32) : FVec Ideal S256x2048 .f32 :=
  fun y => Ideal.div (∑ l : Fin 128, x (ix3 (y 0) l (y 1))) (Ideal.ofBits .f32 0x43000000#32)

/-- The score of class `n` for row `b`. -/
def score (w : FVec Ideal S10000x2048 .f32) (k : FVec Ideal S256x2048 .f32) (b : Fin 256) (n : Fin 10000) : EReal :=
  ∑ ch : Fin 2048, w (ix2 n ch) * k (ix2 b ch)

/-- `X` holds block `k` of the classes' weights, as far as there are classes. -/
def HoldsRows (w : FVec Ideal S10000x2048 .f32) (k : ℕ) (X : FVec Ideal S1024x2048 .f32) : Prop :=
  ∀ (r : Fin 1024) (h : 1024 * k + r.val < 10000) (ch : Fin 2048), X (ix2 r ch) = w (ix2 ⟨1024 * k + r.val, h⟩ ch)

/-- A pooled row: the mean over the positions. -/
theorem pay1_apply (X : FVec Ideal S8x128x2048 .f32) (r : Fin 8) (ch : Fin 2048) :
    k0_pay1 (F := Ideal) X (ix2 r ch) = Ideal.div (∑ l : Fin 128, X (ix3 r l ch)) (Ideal.ofBits .f32 0x43000000#32) := by
  pointwise [k0_pay1]

/-- The same row, as it is stored in the scratch. -/
theorem pay2_apply (X : FVec Ideal S8x128x2048 .f32) (r : Fin 8) (ch : Fin 2048) :
    k0_pay2 (F := Ideal) X (ix2 r ch) = k0_pay1 (F := Ideal) X (ix2 r ch) := by
  pointwise [k0_pay2]

/-- A block's product with the pooled rows, element by element. -/
theorem pay8_apply (X : FVec Ideal S1024x2048 .f32) (S : FVec Ideal S256x2048 .f32) (r : Fin 1024) (b : Fin 256) :
    k0_pay8 (F := Ideal) X S (ix2 r b) = ∑ ch : Fin 2048, X (ix2 r ch) * S (ix2 b ch) := by
  pointwise [k0_pay8]

/-- The words the body computes its row numbers with: block `k`'s first row. -/
theorem first_row (k : ℕ) (hk : k < 10) :
    Scalar.muli (Scalar.subi (BitVec.ofNat 32 (32 + k)) 32#32) 1024#32 = BitVec.ofNat 32 (1024 * k) := by
  interval_cases k <;> rfl

/-- The greatest float's literal below all is −∞. -/
theorem lit_bot : Ideal.ofBits FTy.f32 4286578688#32 = ⊥ := by
  show Ideal.ieee 8 23 (4286578688#32 : BitVec 32) = ⊥
  unfold Ideal.ieee
  rfl

/-- A row past the last class fails the body's test, any other passes. -/
theorem row_test (k : ℕ) (hk : k < 10) (r : Fin 1024) :
    IntOp.cmpi CmpIPredicate.slt (IntOp.addi (BitVec.ofNat 32 (1024 * k)) (BitVec.ofNat 32 r.val)) 10000#32
      = BitVec.ofBool (decide (1024 * k + r.val < 10000)) := by
  have hr := r.isLt
  show BitVec.ofBool ((BitVec.ofNat 32 (1024 * k) + BitVec.ofNat 32 r.val).slt 10000#32) = _
  congr 1
  have e : (BitVec.ofNat 32 (1024 * k) + BitVec.ofNat 32 r.val).toNat = 1024 * k + r.val := by
    simp only [BitVec.toNat_add, BitVec.toNat_ofNat]; omega
  unfold BitVec.slt
  rw [BitVec.toInt_eq_toNat_of_lt (by rw [e]; omega), e, BitVec.toInt_eq_toNat_of_lt (by decide)]
  simp only [BitVec.toNat_ofNat, decide_eq_decide]
  omega

/-- A row is the target's exactly where its class is. -/
theorem hit_test (k : ℕ) (hk : k < 10) (r : Fin 1024) (v : BitVec 32) :
    IntOp.cmpi CmpIPredicate.eq (BitVec.ofNat 32 r.val) (IntOp.subi v (BitVec.ofNat 32 (1024 * k)))
      = BitVec.ofBool (decide (1024 * k + r.val = v.toNat)) := by
  have hr := r.isLt
  have hv := v.isLt
  show BitVec.ofBool (BitVec.ofNat 32 r.val == v - BitVec.ofNat 32 (1024 * k)) = _
  congr 1
  rw [beq_eq_decide, decide_eq_decide, ← BitVec.toNat_inj]
  simp only [BitVec.toNat_sub, BitVec.toNat_ofNat]
  omega

/-- The masked block of scores: the score of a row that is a class's, −∞ past the last class. -/
theorem pay9_apply (w : FVec Ideal S10000x2048 .f32) (k : ℕ) (hk : k < 10) (X : FVec Ideal S1024x2048 .f32) (hX : HoldsRows w k X)
    (S : FVec Ideal S256x2048 .f32) (r : Fin 1024) (b : Fin 256) :
    k0_pay9 (F := Ideal) (BitVec.ofNat 32 (32 + k)) X S (ix2 r b) = cell (score w S b) k r := by
  pointwise [k0_pay9]
  rw [first_row k hk, row_test k hk, lit_bot]
  unfold cell Scalar.select
  by_cases h : 1024 * k + r.val < 10000
  · rw [dif_pos h, decide_eq_true h, if_pos (by decide), pay8_apply]
    exact Finset.sum_congr rfl fun ch _ => by rw [hX r h ch]
  · rw [dif_neg h, decide_eq_false h, if_neg (by decide)]

/-- The block's greatest score for each batch row. -/
theorem pay10_apply (w : FVec Ideal S10000x2048 .f32) (k : ℕ) (hk : k < 10) (X : FVec Ideal S1024x2048 .f32) (hX : HoldsRows w k X)
    (S : FVec Ideal S256x2048 .f32) (b : Fin 256) :
    k0_pay10 (F := Ideal) (BitVec.ofNat 32 (32 + k)) X S (ix2 0 b) = Finset.univ.sup (cell (score w S b) k) := by
  pointwise [k0_pay10]
  rw [lit_bot, fold_max]
  exact congrArg _ (funext fun r => pay9_apply w k hk X hX S r b)

/-- The block's sum of exponentials relative to it. -/
theorem pay11_apply (w : FVec Ideal S10000x2048 .f32) (k : ℕ) (hk : k < 10) (X : FVec Ideal S1024x2048 .f32) (hX : HoldsRows w k X)
    (S : FVec Ideal S256x2048 .f32) (b : Fin 256) :
    k0_pay11 (F := Ideal) (BitVec.ofNat 32 (32 + k)) X S (ix2 0 b)
      = ∑ r, Ideal.exp (cell (score w S b) k r - Finset.univ.sup (cell (score w S b) k)) := by
  pointwise [k0_pay11]
  exact Finset.sum_congr rfl fun r _ => by rw [pay9_apply w k hk X hX S r b, pay10_apply w k hk X hX S b]

/-- The score of the target, if its class is in the block, and −∞ otherwise. -/
theorem pay12_apply (w : FVec Ideal S10000x2048 .f32) (k : ℕ) (hk : k < 10) (X : FVec Ideal S1024x2048 .f32) (hX : HoldsRows w k X)
    (S : FVec Ideal S256x2048 .f32) (T : IVec S1x256 32) (b : Fin 256) (hT : (T (ix2 0 b)).toNat < 10000) :
    k0_pay12 (F := Ideal) (BitVec.ofNat 32 (32 + k)) X S T (ix2 0 b)
      = ((block 10000 k).filter fun n => n.val = (T (ix2 0 b)).toNat).sup (score w S b) := by
  pointwise [k0_pay12]
  rw [lit_bot, fold_max, first_row k hk]
  refine sup_cells (score w S b) _ k _ (fun r h => ?_) (fun r h => ?_)
  · rw [hit_test k hk]
    unfold Scalar.select
    by_cases e : 1024 * k + r.val = (T (ix2 0 b)).toNat
    · rw [decide_eq_true e, if_pos (by decide : BitVec.ofBool true = 1), if_pos e, pay8_apply]
      exact Finset.sum_congr rfl fun ch _ => by rw [hX r h ch]
    · rw [decide_eq_false e, if_neg (by decide), if_neg e]
  · rw [hit_test k hk]
    unfold Scalar.select
    rw [decide_eq_false (by omega), if_neg (by decide)]

/-- The first head step stores the block's maximum, -/
theorem pay13_apply (v : BitVec 32) (X : FVec Ideal S1024x2048 .f32) (S : FVec Ideal S256x2048 .f32) (b : Fin 256) :
    k0_pay13 (F := Ideal) v X S (ix2 0 b) = k0_pay10 v X S (ix2 0 b) := by
  pointwise [k0_pay13]

/-- its sum -/
theorem pay14_apply (v : BitVec 32) (X : FVec Ideal S1024x2048 .f32) (S : FVec Ideal S256x2048 .f32) (b : Fin 256) :
    k0_pay14 (F := Ideal) v X S (ix2 0 b) = k0_pay11 v X S (ix2 0 b) := by
  pointwise [k0_pay14]

/-- and its target's score. -/
theorem pay15_apply (v : BitVec 32) (X : FVec Ideal S1024x2048 .f32) (S : FVec Ideal S256x2048 .f32) (T : IVec S1x256 32) (b : Fin 256) :
    k0_pay15 (F := Ideal) v X S T (ix2 0 b) = k0_pay12 v X S T (ix2 0 b) := by
  pointwise [k0_pay15]

/-- A later head step's sum: the old and the new one, each scaled to the new maximum; -/
theorem pay4_apply (c e m s : FVec Ideal S1x256 .f32) (b : Fin 256) :
    k0_pay4 (F := Ideal) c e m s (ix2 0 b)
      = s (ix2 0 b) * Ideal.exp (m (ix2 0 b) - max (m (ix2 0 b)) (c (ix2 0 b)))
        + e (ix2 0 b) * Ideal.exp (c (ix2 0 b) - max (m (ix2 0 b)) (c (ix2 0 b))) := by
  pointwise [k0_pay4, k0_pay3]

/-- its maximum, the greater of the old and the new one; -/
theorem pay5_apply (c m : FVec Ideal S1x256 .f32) (b : Fin 256) :
    k0_pay5 (F := Ideal) c m (ix2 0 b) = max (m (ix2 0 b)) (c (ix2 0 b)) := by
  pointwise [k0_pay5, k0_pay3]

/-- its target's score, likewise. -/
theorem pay6_apply (c m : FVec Ideal S1x256 .f32) (b : Fin 256) :
    k0_pay6 (F := Ideal) c m (ix2 0 b) = max (m (ix2 0 b)) (c (ix2 0 b)) := by
  pointwise [k0_pay6]

/-- One row's weight before it is normalised, from its target's probability. -/
def damped (p : EReal) : EReal :=
  Ideal.tanh (Ideal.ofBits FTy.f32 1067030938#32 * Ideal.div p (0 * Ideal.ofBits FTy.f32 1176256512#32))

/-- The new weight of row `b`, from all rows' target probabilities. -/
def weightOf (p : Fin 256 → EReal) (b : Fin 256) : EReal :=
  Ideal.div (Ideal.ofBits FTy.f32 1132462080#32 * damped (p b)) (∑ x, damped (p x))

/-- The last point's weights, from the running rows. -/
theorem pay7_apply (t m s : FVec Ideal S1x256 .f32) (b : Fin 256) :
    k0_pay7 (F := Ideal) t m s (ix2 0 b)
      = weightOf (fun x => Ideal.div (Ideal.exp (t (ix2 0 x) - m (ix2 0 x))) (s (ix2 0 x))) b := by
  pointwise [k0_pay7]
  rfl

/-! ## The running values -/

section Running

variable (w : FVec Ideal S10000x2048 .f32) (S : FVec Ideal S256x2048 .f32) (T : IVec S1x256 32)

/-- The greatest score of each row over the first `k` blocks of classes; -/
def maxAt (k : ℕ) : FVec Ideal S1x256 .f32 := fun y => Online.top (score w S (y 1)) k
/-- the sum of the exponentials relative to it; -/
def massAt (k : ℕ) : FVec Ideal S1x256 .f32 := fun y => mass (score w S (y 1)) k
/-- the score of the row's target, if its class is among them. -/
def hitAt (k : ℕ) : FVec Ideal S1x256 .f32 := fun y => picked (score w S (y 1)) (fun n => n.val = (T y).toNat) k

/-- After the first block the stored maximum is the running one; -/
theorem maxAt_one (X : FVec Ideal S1024x2048 .f32) (hX : HoldsRows w 0 X) :
    k0_pay13 (F := Ideal) (BitVec.ofNat 32 (32 + 0)) X S = maxAt w S 1 := by
  funext y; idx_vars y
  obtain rfl : y0 = 0 := Subsingleton.elim _ _
  rw [pay13_apply, pay10_apply w 0 (by omega) X hX]
  exact (top_one _).symm

/-- the stored sum is the running one; -/
theorem massAt_one (X : FVec Ideal S1024x2048 .f32) (hX : HoldsRows w 0 X) :
    k0_pay14 (F := Ideal) (BitVec.ofNat 32 (32 + 0)) X S = massAt w S 1 := by
  funext y; idx_vars y
  obtain rfl : y0 = 0 := Subsingleton.elim _ _
  rw [pay14_apply, pay11_apply w 0 (by omega) X hX]
  exact (mass_one _).symm

/-- the stored target's score is the running one. -/
theorem hitAt_one (X : FVec Ideal S1024x2048 .f32) (hX : HoldsRows w 0 X) (hT : ∀ y, (T y).toNat < 10000) :
    k0_pay15 (F := Ideal) (BitVec.ofNat 32 (32 + 0)) X S T = hitAt w S T 1 := by
  funext y; idx_vars y
  obtain rfl : y0 = 0 := Subsingleton.elim _ _
  rw [pay15_apply, pay12_apply w 0 (by omega) X hX S T _ (hT _)]
  exact (picked_one _ _).symm

/-- One more block brings the running maximum one block further; -/
theorem maxAt_succ (k : ℕ) (hk : k < 10) (X : FVec Ideal S1024x2048 .f32) (hX : HoldsRows w k X) :
    k0_pay5 (F := Ideal) (k0_pay10 (F := Ideal) (BitVec.ofNat 32 (32 + k)) X S) (maxAt w S k) = maxAt w S (k + 1) := by
  funext y; idx_vars y
  obtain rfl : y0 = 0 := Subsingleton.elim _ _
  rw [pay5_apply, pay10_apply w k hk X hX]
  exact (top_succ _ _).symm

/-- so it does the running sum, -/
theorem massAt_succ (k : ℕ) (hk : k < 10) (X : FVec Ideal S1024x2048 .f32) (hX : HoldsRows w k X) :
    k0_pay4 (F := Ideal) (k0_pay10 (F := Ideal) (BitVec.ofNat 32 (32 + k)) X S) (k0_pay11 (F := Ideal) (BitVec.ofNat 32 (32 + k)) X S)
      (maxAt w S k) (massAt w S k) = massAt w S (k + 1) := by
  funext y; idx_vars y
  obtain rfl : y0 = 0 := Subsingleton.elim _ _
  rw [pay4_apply, pay10_apply w k hk X hX, pay11_apply w k hk X hX]
  refine Eq.trans ?_ (mass_succ _ _).symm
  rw [top_succ]
  rfl

/-- and the running target's score. -/
theorem hitAt_succ (k : ℕ) (hk : k < 10) (X : FVec Ideal S1024x2048 .f32) (hX : HoldsRows w k X) (hT : ∀ y, (T y).toNat < 10000) :
    k0_pay6 (F := Ideal) (k0_pay12 (F := Ideal) (BitVec.ofNat 32 (32 + k)) X S T) (hitAt w S T k) = hitAt w S T (k + 1) := by
  funext y; idx_vars y
  obtain rfl : y0 = 0 := Subsingleton.elim _ _
  rw [pay6_apply, pay12_apply w k hk X hX S T _ (hT _)]
  exact (picked_succ _ _ _).symm

end Running

end Cert.KernelIdeal.Hand

end
-- ==== Proof.Geometry.lean ====
/-
  Where each grid point reads and writes, and which points fetch, write back or leave a window alone.
-/
module

public import proofs.«01_k».proof.Proof.Tile
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

/-! ## The schedule -/

/-- A point's coordinate is its number. -/
theorem coord_val : ∀ t : Fin grid0.N, (grid0.coords t 0).val = t.val := by decide +kernel

/-- The first score window is left alone by the pool steps; -/
theorem idle3 : ∀ t : Fin cfg0.N, cfg0.idle 3 (cfg0.grid.coords t) = decide (t.val < 32) := by decide +kernel
/-- so is the second; -/
theorem idle4 : ∀ t : Fin cfg0.N, cfg0.idle 4 (cfg0.grid.coords t) = decide (t.val < 32) := by decide +kernel
/-- the window of pooled features is left alone by the head steps, -/
theorem idle5 : ∀ t : Fin cfg0.N, cfg0.idle 5 (cfg0.grid.coords t) = decide (32 ≤ t.val) := by decide +kernel
/-- and that of the weights by all points but the last. -/
theorem idle6 : ∀ t : Fin cfg0.N, cfg0.idle 6 (cfg0.grid.coords t) = decide (t.val < 41) := by decide +kernel

/-- The first score window is written back after every head step; -/
theorem flush3 : ∀ t : Fin cfg0.N, (cfg0.win 3).flush t = decide (32 ≤ t.val) := by decide +kernel
/-- so is the second; -/
theorem flush4 : ∀ t : Fin cfg0.N, (cfg0.win 4).flush t = decide (32 ≤ t.val) := by decide +kernel
/-- the pooled features are written back after every pool step, the last ones at the end; -/
theorem flush5 : ∀ t : Fin cfg0.N, (cfg0.win 5).flush t = decide (t.val < 31 ∨ t.val = 41) := by decide +kernel
/-- the weights are written back at the end. -/
theorem flush6 : ∀ t : Fin cfg0.N, (cfg0.win 6).flush t = decide (t.val = 41) := by decide +kernel

/-- A block of the classes' weights is fetched at the start and at every head step after the first. -/
theorem fetch2 : ∀ t : Fin cfg0.N, (cfg0.win 2).fetch t = decide (t.val = 0 ∨ 33 ≤ t.val) := by decide +kernel

/-- The window of pooled features is never fresh at a head step. -/
theorem fresh5 : ∀ t : Fin cfg0.N, 32 ≤ t.val → cfg0.fresh 5 t.val = false := by decide +kernel

/-! ## The blocks -/

/-- The targets' block is always the whole row; -/
theorem idx0_0 : ∀ t : Fin cfg0.N, win0_0.index t 0 = 0 := by decide +kernel
/-- in both axes. -/
theorem idx0_1 : ∀ t : Fin cfg0.N, win0_0.index t 1 = 0 := by decide +kernel
/-- The feature maps' block follows the pool steps and then stays; -/
theorem idx1_0 : ∀ t : Fin cfg0.N, win0_1.index t 0 = min t.val 31 := by decide +kernel
/-- it takes in every position -/
theorem idx1_1 : ∀ t : Fin cfg0.N, win0_1.index t 1 = 0 := by decide +kernel
/-- and every channel. -/
theorem idx1_2 : ∀ t : Fin cfg0.N, win0_1.index t 2 = 0 := by decide +kernel
/-- The block of the classes' weights follows the head steps; -/
theorem idx2_0 : ∀ t : Fin cfg0.N, win0_2.index t 0 = t.val - 32 := by decide +kernel
/-- it takes in every channel. -/
theorem idx2_1 : ∀ t : Fin cfg0.N, win0_2.index t 1 = 0 := by decide +kernel
/-- The first score block follows the head steps; -/
theorem idx3_0 : ∀ t : Fin cfg0.N, win0_3.index t 0 = t.val - 32 := by decide +kernel
/-- it takes in every batch row. -/
theorem idx3_1 : ∀ t : Fin cfg0.N, win0_3.index t 1 = 0 := by decide +kernel
/-- The second score block follows the head steps; -/
theorem idx4_0 : ∀ t : Fin cfg0.N, win0_4.index t 0 = t.val - 32 := by decide +kernel
/-- it takes in every batch row. -/
theorem idx4_1 : ∀ t : Fin cfg0.N, win0_4.index t 1 = 0 := by decide +kernel
/-- The block of pooled features follows the pool steps and then stays; -/
theorem idx5_0 : ∀ t : Fin cfg0.N, win0_5.index t 0 = min t.val 31 := by decide +kernel
/-- it takes in every channel. -/
theorem idx5_1 : ∀ t : Fin cfg0.N, win0_5.index t 1 = 0 := by decide +kernel

/-- A block of the classes' weights is cut at the last class, -/
theorem size2_0 : ∀ t : Fin cfg0.N, win0_2.xsize (grid0.coords t) 0 = min 1024 (10000 - 1024 * (t.val - 32)) := by decide +kernel
/-- and not along the channels. -/
theorem size2_1 : ∀ t : Fin cfg0.N, win0_2.xsize (grid0.coords t) 1 = 2048 := by decide +kernel
/-- A block of the first scores is cut at the last class, -/
theorem size3_0 : ∀ t : Fin cfg0.N, win0_3.xsize (grid0.coords t) 0 = min 1024 (10000 - 1024 * (t.val - 32)) := by decide +kernel
/-- and not along the batch rows. -/
theorem size3_1 : ∀ t : Fin cfg0.N, win0_3.xsize (grid0.coords t) 1 = 256 := by decide +kernel
/-- A block of the second scores is cut at the last class, -/
theorem size4_0 : ∀ t : Fin cfg0.N, win0_4.xsize (grid0.coords t) 0 = min 1024 (10000 - 1024 * (t.val - 32)) := by decide +kernel
/-- and not along the batch rows. -/
theorem size4_1 : ∀ t : Fin cfg0.N, win0_4.xsize (grid0.coords t) 1 = 256 := by decide +kernel

/-- What a transfer moves agrees where the contents agree on the moved part. -/
theorem cut_ext {sig : RefSig} {G : Pipeline.Grid} (w : Pipeline.Window sig G) (i : G.Coords) {α : Type} (X Y : w.block.Idx → α)
    (h : ∀ y, w.moved i y = true → X y = Y y) : w.cut i X = w.cut i Y :=
  funext fun j => h _ (w.moved_xinj i j)

/-- A filled block reads, at a moved index, as the contents it was filled from. -/
theorem fill_cut_apply {sig : RefSig} {G : Pipeline.Grid} (w : Pipeline.Window sig G) (i : G.Coords) {α : Type} (d Y : w.block.Idx → α)
    (y : w.block.Idx) (h : w.moved i y = true) : w.fill i d (w.cut i Y) y = Y y := by
  unfold Pipeline.Window.fill; rw [dif_pos h]

/-- A row of block `t − 32` of the weights is moved if it is a class's. -/
theorem moved2 (t : Fin cfg0.N) (r : Fin 1024) (ch : Fin 2048) :
    win0_2.moved (grid0.coords t) (ix2 r ch) = true ↔ 1024 * (t.val - 32) + r.val < 10000 := by
  have hr := r.isLt
  have hc := ch.isLt
  have ht : t.val < 42 := t.isLt
  rw [win0_2.moved_iff]
  constructor
  · intro h
    have h0 : r.val < win0_2.xsize (grid0.coords t) 0 := h 0
    rw [size2_0] at h0; omega
  · intro h a
    match a with
    | ⟨0, _⟩ => show r.val < win0_2.xsize (grid0.coords t) 0; rw [size2_0]; omega
    | ⟨1, _⟩ => show ch.val < win0_2.xsize (grid0.coords t) 1; rw [size2_1]; omega

/-- A row of a block of the first scores is moved if it is a class's. -/
theorem moved3 (t : Fin cfg0.N) (r : Fin 1024) (b : Fin 256) :
    win0_3.moved (grid0.coords t) (ix2 r b) = true ↔ 1024 * (t.val - 32) + r.val < 10000 := by
  have hr := r.isLt
  have hc := b.isLt
  have ht : t.val < 42 := t.isLt
  rw [win0_3.moved_iff]
  constructor
  · intro h
    have h0 : r.val < win0_3.xsize (grid0.coords t) 0 := h 0
    rw [size3_0] at h0; omega
  · intro h a
    match a with
    | ⟨0, _⟩ => show r.val < win0_3.xsize (grid0.coords t) 0; rw [size3_0]; omega
    | ⟨1, _⟩ => show b.val < win0_3.xsize (grid0.coords t) 1; rw [size3_1]; omega

/-- A row of a block of the second scores is moved if it is a class's. -/
theorem moved4 (t : Fin cfg0.N) (r : Fin 1024) (b : Fin 256) :
    win0_4.moved (grid0.coords t) (ix2 r b) = true ↔ 1024 * (t.val - 32) + r.val < 10000 :=
  moved3 t r b

variable (m : (ℓ : Loc nD τ sig) → Buf (Elt Ideal) ℓ)

/-- As the region finds them: the feature maps, channels last; -/
abbrev xOf (c : Dev nD) : FVec Ideal S256x128x2048 .f32 := V m c main_v1
/-- The classes' weights; -/
abbrev wOf (c : Dev nD) : FVec Ideal S10000x2048 .f32 := V m c main_arg2
/-- the targets. -/
abbrev tOf (c : Dev nD) : IVec S1x256 32 := V m c main_v2

/-- The pooled features. -/
abbrev neckOf (c : Dev nD) : FVec Ideal S256x2048 .f32 := pooled (xOf m c)

/-- Every point finds the targets in its first window. -/
theorem iblk0_eq (c : Dev nD) (t : Fin cfg0.N) : (iblk m c 0 t : IVec S1x256 32) = tOf m c := by
  funext y; idx_vars y
  unfold iblk
  blk_simp
  refine congrArg (V m c main_v2) ?_
  blk_ext [idx0_0 t, idx0_1 t]

/-- Every point finds eight rows of the feature maps in its second window. -/
theorem iblk1_apply (c : Dev nD) (t : Fin cfg0.N) (r : Fin 8) (l : Fin 128) (ch : Fin 2048) :
    (iblk m c 1 t : FVec Ideal S8x128x2048 .f32) (ix3 r l ch)
      = xOf m c (ix3 ⟨8 * min t.val 31 + r.val, by have := r.isLt; omega⟩ l ch) := by
  unfold iblk
  blk_simp
  refine congrArg (V m c main_v1) ?_
  blk_ext [idx1_0 t, idx1_1 t, idx1_2 t]

/-- The eight pooled rows of point `t`. -/
def neckRows (c : Dev nD) (t : ℕ) : FVec Ideal S8x2048 .f32 :=
  fun y => neckOf m c (ix2 ⟨8 * min t 31 + (y 0).val, by have : (y 0).val < 8 := (y 0).isLt; omega⟩ (y 1))

/-- The mean of those is the point's eight pooled rows. -/
theorem pay1_iblk (c : Dev nD) (t : Fin cfg0.N) : k0_pay1 (F := Ideal) (iblk m c 1 t) = neckRows m c t.val := by
  funext y; idx_vars y
  rw [pay1_apply]
  unfold neckRows neckOf pooled
  exact congrArg (fun s => Ideal.div s _) (Finset.sum_congr rfl fun l _ => iblk1_apply m c t y0 l y1)

/-- Block `t − 32` of the weights, with zeros past the last class. -/
def weightRows (c : Dev nD) (t : ℕ) : FVec Ideal S1024x2048 .f32 :=
  fun y => if h : 1024 * (t - 32) + (y 0).val < 10000 then wOf m c (ix2 ⟨1024 * (t - 32) + (y 0).val, h⟩ (y 1)) else 0

/-- Block `t − 32` of the scores, with zeros past the last class. -/
def scoreRows (c : Dev nD) (t : ℕ) : FVec Ideal S1024x256 .f32 :=
  fun y => if h : 1024 * (t - 32) + (y 0).val < 10000 then score (wOf m c) (neckOf m c) (y 1) ⟨1024 * (t - 32) + (y 0).val, h⟩ else 0

/-- A row of the block is its class's weights. -/
theorem weightRows_apply (c : Dev nD) (t : ℕ) (r : Fin 1024) (ch : Fin 2048) (h : 1024 * (t - 32) + r.val < 10000) :
    weightRows m c t (ix2 r ch) = wOf m c (ix2 ⟨1024 * (t - 32) + r.val, h⟩ ch) := dif_pos h

/-- A row of the block is its class's scores. -/
theorem scoreRows_apply (c : Dev nD) (t : ℕ) (r : Fin 1024) (b : Fin 256) (h : 1024 * (t - 32) + r.val < 10000) :
    scoreRows m c t (ix2 r b) = score (wOf m c) (neckOf m c) b ⟨1024 * (t - 32) + r.val, h⟩ := dif_pos h

/-- The fetched block is the weights' rows, cut at the last class. -/
theorem iblk2_eq (c : Dev nD) (t : Fin cfg0.N) :
    iblk m c 2 t = win0_2.cut (grid0.coords t) (weightRows m c t.val) := by
  funext j
  have hb : 1024 * (t.val - 32) + (j 0).val < 10000 := by
    have h0 : (j 0).val < win0_2.xsize (grid0.coords t) 0 := (j 0).isLt
    have ht : t.val < 42 := t.isLt
    rw [size2_0] at h0; omega
  refine Eq.trans ?_ (dif_pos (α := EReal) hb).symm
  unfold iblk
  blk_simp
  refine congrArg (V m c main_arg2) ?_
  blk_ext [idx2_0 t, idx2_1 t]

/-- Contents with the right rows are, where a transfer moves them, the filled block. -/
theorem cut_of_holds (c : Dev nD) (t : Fin cfg0.N) (X : FVec Ideal S1024x2048 .f32) (h : HoldsRows (wOf m c) (t.val - 32) X) :
    win0_2.cut (grid0.coords t) X = win0_2.cut (grid0.coords t) (weightRows m c t.val) :=
  cut_ext win0_2 _ _ _ fun (y : S1024x2048.Idx) hy => by
    idx_vars y
    have hb := (moved2 t y0 y1).mp hy
    rw [h y0 hb y1, weightRows_apply m c t.val y0 y1 hb]

/-- A block filled from the weights holds its classes' rows, whatever it held past the last class. -/
theorem holds_of_fill (c : Dev nD) (t : Fin cfg0.N) (d : FVec Ideal S1024x2048 .f32) :
    HoldsRows (wOf m c) (t.val - 32) (win0_2.fill (grid0.coords t) d (win0_2.cut (grid0.coords t) (weightRows m c t.val))) :=
  fun r h ch => (fill_cut_apply win0_2 _ d _ _ ((moved2 t r ch).mpr h)).trans (weightRows_apply m c t.val r ch h)

/-- The product of such contents with the pooled features is, where a write-back moves it, the block of scores. -/
theorem cut_scores (c : Dev nD) (t : Fin cfg0.N) (X : FVec Ideal S1024x2048 .f32) (h : HoldsRows (wOf m c) (t.val - 32) X) :
    win0_3.cut (grid0.coords t) (k0_pay8 (F := Ideal) X (neckOf m c)) = win0_3.cut (grid0.coords t) (scoreRows m c t.val) :=
  cut_ext win0_3 _ _ _ fun (y : S1024x256.Idx) hy => by
    idx_vars y
    have hb := (moved3 t y0 y1).mp hy
    rw [pay8_apply, scoreRows_apply m c t.val y0 y1 hb]
    exact Finset.sum_congr rfl fun ch _ => by rw [h y0 hb ch]

end Cert.KernelIdeal.Hand

end
-- ==== Proof.RunIdeal.lean ====
/-
  The kernel over the extended reals, run with its contents kept: after the pool steps the scratch holds the pooled features, after
  `k` head steps the running maximum, sum and target score of the first `k` blocks of classes.
-/
module

public import proofs.«01_k».proof.Proof.FrameIdeal
public import proofs.«01_k».proof.Proof.Geometry
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

local notation "𝕄" => MT nD τ sig Unit (Elt Ideal) ℕ (UR sig nD τ) ℕ

variable (m : (ℓ : Loc nD τ sig) → Buf (Elt Ideal) ℓ) (ρ : Dev nD → PrngReg)

/-- The new weights the last step leaves. -/
def weightsOf (c : Dev nD) : FVec Ideal S1x256 .f32 :=
  k0_pay7 (F := Ideal) (hitAt (wOf m c) (neckOf m c) (tOf m c) 10) (maxAt (wOf m c) (neckOf m c) 10) (massAt (wOf m c) (neckOf m c) 10)

/-- The scratch before point `t`: the pooled rows so far, and from the second head step on the running rows. -/
def Tracked (c : Dev nD) (t : ℕ) (S0 : FVec Ideal S256x2048 .f32) (S1 S2 S3 : FVec Ideal S1x256 .f32) : Prop :=
  (∀ (b : Fin 256) (ch : Fin 2048), b.val < 8 * t → S0 (ix2 b ch) = neckOf m c (ix2 b ch))
    ∧ (33 ≤ t → S1 = maxAt (wOf m c) (neckOf m c) (t - 32) ∧ S2 = massAt (wOf m c) (neckOf m c) (t - 32)
        ∧ S3 = hitAt (wOf m c) (neckOf m c) (tOf m c) (t - 32))

/-- The scratch at contents the run keeps track of, before point `t`. -/
abbrev scratchAt (c : Dev nD) (t : ℕ) : sProp 𝕄 :=
  iprop((∃ S0 S1 S2 S3, ⌜Tracked m c t S0 S1 S2 S3⌝ ∗ owns (c : Thread nD τ) sc0 fullShare S0 ∗ owns (c : Thread nD τ) sc1 fullShare S1
      ∗ owns (c : Thread nD τ) sc2 fullShare S2 ∗ owns (c : Thread nD τ) sc3 fullShare S3)
    ∗ ∃ r, prngReg c r)

/-- The proof data on core `c`. -/
def datV (c : Dev nD) : Dat τ (Elt Ideal) Unit ℕ (UR sig nD τ) ℕ cfg0 c where
  A w := V0 m c (Proc.devRef .tc (Pipeline.arrRef cfg0.spec w))
  after w t := match w with
    | ⟨0, _⟩ => iblk m c 0 t
    | ⟨1, _⟩ => iblk m c 1 t
    | ⟨2, _⟩ => weightRows m c t.val
    | ⟨3, _⟩ => scoreRows m c t.val
    | ⟨4, _⟩ => scoreRows m c t.val
    | ⟨5, _⟩ => neckRows m c t.val
    | ⟨6, _⟩ => weightsOf m c
  Φ t := scratchAt m c t.val
  q _ := fullShare
  owed _ := 0

/-- The same for the only region. -/
def datsV (p : Fin 1) (c : Dev nD) : Dat τ (Elt Ideal) Unit ℕ (UR sig nD τ) ℕ (cfgs p) c :=
  match p with | 0 => datV m c

/-! ## What the body finds -/

/-- Every point finds the targets in its first window, -/
theorem before0 (c : Dev nD) (t : Fin cfg0.N) (d) : (datV m c).before 0 t d = tOf m c :=
  (before0_0_of m (datV m c) rfl (fun _ => rfl) t d).trans (iblk0_eq m c t)

/-- its rows of the feature maps in the second, -/
theorem before1 (c : Dev nD) (t : Fin cfg0.N) (d) : (datV m c).before 1 t d = iblk m c 1 t :=
  before0_1_of m (datV m c) rfl (fun _ => rfl) t d

/-- and its block of the classes' weights in the third. -/
theorem before2 (c : Dev nD) (t : Fin cfg0.N) (d) : HoldsRows (wOf m c) (t.val - 32) ((datV m c).before 2 t d) := by
  cases hf : (cfg0.win 2).fetch t with
  | true =>
    have e : (datV m c).before 2 t d = win0_2.fill (grid0.coords t) d (win0_2.cut (grid0.coords t) (weightRows m c t.val)) := by
      rw [(datV m c).before_fetched 2 t hf d, ← iblk2_eq m c t]; rfl
    rw [e]; exact holds_of_fill m c t d
  | false =>
    rw [fetch2, decide_eq_false_iff_not, not_or, not_le] at hf
    obtain ⟨t0, t1⟩ := hf
    have hlt : t.val - 1 < cfg0.N := Nat.lt_of_le_of_lt (Nat.sub_le _ _) t.isLt
    have e : (datV m c).before 2 t d
        = win0_2.fill (grid0.coords ⟨t.val - 1, hlt⟩) d (win0_2.cut (grid0.coords ⟨t.val - 1, hlt⟩) (weightRows m c (t.val - 1))) :=
      (datV m c).before_unfetched_in 2 rfl t (by rw [fetch2, decide_eq_false_iff_not]; omega) (fun _ => rfl) d
    rw [e]
    have := holds_of_fill m c ⟨t.val - 1, hlt⟩ d
    rwa [show t.val - 1 - 32 = t.val - 32 by omega] at this

/-- From the last pool step on the rows last pooled are the same. -/
theorem neckRows_head (c : Dev nD) (s t : ℕ) (hs : 31 ≤ s) (ht : 31 ≤ t) : neckRows m c s = neckRows m c t := by
  funext y
  exact congrArg (fun r => neckOf m c (ix2 r (y 1)))
    (Fin.ext (show 8 * min s 31 + (y 0).val = 8 * min t 31 + (y 0).val by omega))

/-- A head step finds the last pool step's rows in the window of pooled features. -/
theorem before5 (c : Dev nD) (t : Fin cfg0.N) (ht : 32 ≤ t.val) (d) : (datV m c).before 5 t d = neckRows m c t.val := by
  have hcarry : ∀ (t : Fin cfg0.N) (h0 : t.val ≠ 0), cfg0.idle 5 (cfg0.grid.coords t) = true → cfg0.fresh 5 t.val = false →
      (datV m c).after 5 t = (datV m c).after 5 ⟨t.val - 1, by omega⟩ := by
    intro t h0 hi _
    rw [idle5, decide_eq_true_eq] at hi
    exact neckRows_head m c t.val (t.val - 1) (by omega) (by omega)
  rw [(datV m c).before_out_traj 5 rfl (fun _ _ => rfl) hcarry t.val t rfl d, fresh5 t ht, if_neg Bool.false_ne_true]
  exact neckRows_head m c (t.val - 1) t.val (by omega) (by omega)

/-! ## What the body leaves -/

section Leaves

variable (c : Dev nD) (t : Fin cfg0.N)

/-- The targets' window is left as it was found; -/
theorem leaves0 : owns (c : Thread nD τ) ((cfg0.win 0).stage (cfg0.slots t 0)) fullShare (tOf m c) ⊢ ((datV m c).leaves 0 t : sProp 𝕄) := by
  rw [← iblk0_eq m c t]; exact .rfl

/-- so is that of the feature maps; -/
theorem leaves1 : owns (c : Thread nD τ) ((cfg0.win 1).stage (cfg0.slots t 1)) fullShare (iblk m c 1 t) ⊢ ((datV m c).leaves 1 t : sProp 𝕄) :=
  .rfl

/-- the third window is left with its classes' rows. -/
theorem leaves2 (X : FVec Ideal S1024x2048 .f32) (h : HoldsRows (wOf m c) (t.val - 32) X) :
    owns (c : Thread nD τ) ((cfg0.win 2).stage (cfg0.slots t 2)) fullShare X ⊢ ((datV m c).leaves 2 t : sProp 𝕄) := by
  show _ ⊢ (iprop(∃ d, owns (c : Thread nD τ) ((cfg0.win 2).stage (cfg0.slots t 2)) fullShare
    (win0_2.fill (grid0.coords t) d (win0_2.cut (grid0.coords t) (weightRows m c t.val)))) : sProp 𝕄)
  iintro H
  iexists X
  rw [win0_2.fill_congr_cut (grid0.coords t) (cut_of_holds m c t X h)]
  iexact H

/-- A head step leaves the first score window with its block of scores. -/
theorem leaves3 (ht : 32 ≤ t.val) (X : FVec Ideal S1024x2048 .f32) (h : HoldsRows (wOf m c) (t.val - 32) X) :
    owns (c : Thread nD τ) ((cfg0.win 3).stage (cfg0.slots t 3)) fullShare (k0_pay8 (F := Ideal) X (neckOf m c)) ⊢ ((datV m c).leaves 3 t : sProp 𝕄) := by
  unfold Dat.leaves
  rw [idle3, decide_eq_false (by omega)]
  show _ ⊢ (iprop(∃ d, owns (c : Thread nD τ) ((cfg0.win 3).stage (cfg0.slots t 3)) fullShare
    (win0_3.fill (grid0.coords t) d (win0_3.cut (grid0.coords t) (scoreRows m c t.val)))) : sProp 𝕄)
  iintro H
  iexists (k0_pay8 (F := Ideal) X (neckOf m c))
  rw [win0_3.fill_congr_cut (grid0.coords t) (cut_scores m c t X h)]
  iexact H

/-- A head step leaves the second score window with its block of scores. -/
theorem leaves4 (ht : 32 ≤ t.val) (X : FVec Ideal S1024x2048 .f32) (h : HoldsRows (wOf m c) (t.val - 32) X) :
    owns (c : Thread nD τ) ((cfg0.win 4).stage (cfg0.slots t 4)) fullShare (k0_pay8 (F := Ideal) X (neckOf m c)) ⊢ ((datV m c).leaves 4 t : sProp 𝕄) := by
  unfold Dat.leaves
  rw [idle4, decide_eq_false (by omega)]
  show _ ⊢ (iprop(∃ d, owns (c : Thread nD τ) ((cfg0.win 4).stage (cfg0.slots t 4)) fullShare
    (win0_4.fill (grid0.coords t) d (win0_4.cut (grid0.coords t) (scoreRows m c t.val)))) : sProp 𝕄)
  iintro H
  iexists (k0_pay8 (F := Ideal) X (neckOf m c))
  have e : win0_4.cut (grid0.coords t) (k0_pay8 (F := Ideal) X (neckOf m c)) = win0_4.cut (grid0.coords t) (scoreRows m c t.val) :=
    cut_scores m c t X h
  rw [win0_4.fill_congr_cut (grid0.coords t) e]
  iexact H

/-- A window that a point leaves alone and that is not written back is left as it was found. -/
theorem found_leaves (w : Fin cfg0.W) (hi : cfg0.idle w (cfg0.grid.coords t) = true) (hf : (cfg0.win w).flush t = false) (d) :
    owns (c : Thread nD τ) ((cfg0.win w).stage (cfg0.slots t w)) fullShare ((datV m c).before w t d) ⊢ ((datV m c).leaves w t : sProp 𝕄) := by
  rw [(datV m c).leaves_idle w t hi hf]
  iintro H
  iexists d
  iexact H

/-- A pool step leaves its pooled rows. -/
theorem leaves5_pool (ht : t.val < 32) :
    owns (c : Thread nD τ) ((cfg0.win 5).stage (cfg0.slots t 5)) fullShare (neckRows m c t.val) ⊢ ((datV m c).leaves 5 t : sProp 𝕄) := by
  unfold Dat.leaves
  rw [idle5, decide_eq_false (by omega)]
  exact .rfl

/-- A head step leaves the pooled rows as it found them. -/
theorem leaves5_head (ht : 32 ≤ t.val) (d) :
    owns (c : Thread nD τ) ((cfg0.win 5).stage (cfg0.slots t 5)) fullShare ((datV m c).before 5 t d) ⊢ ((datV m c).leaves 5 t : sProp 𝕄) := by
  cases hf : (cfg0.win 5).flush t with
  | false => exact found_leaves m c t 5 (by rw [idle5, decide_eq_true ht]) hf d
  | true =>
    rw [before5 m c t ht d]
    unfold Dat.leaves
    rw [idle5, decide_eq_true ht, hf]
    exact .rfl

/-- The last point leaves the weights. -/
theorem leaves6_last (ht : t.val = 41) :
    owns (c : Thread nD τ) ((cfg0.win 6).stage (cfg0.slots t 6)) fullShare (weightsOf m c) ⊢ ((datV m c).leaves 6 t : sProp 𝕄) := by
  unfold Dat.leaves
  rw [idle6, decide_eq_false (by omega)]
  exact .rfl

end Leaves

/-! ## The scratch from a point to the next -/

section Steps

variable {m} {c : Dev nD} {t : Fin cfg0.N} {S0 : FVec Ideal S256x2048 .f32} {S1 S2 S3 : FVec Ideal S1x256 .f32}

/-- From the first head step on the scratch holds all the pooled rows. -/
theorem Tracked.neck (h : Tracked m c t.val S0 S1 S2 S3) (ht : 32 ≤ t.val) : S0 = neckOf m c := by
  funext y; idx_vars y
  exact h.1 y0 y1 (by have := y0.isLt; omega)

/-- A pool step stores its rows at eight times its number. -/
theorem off_eq (t : Fin cfg0.N) (ht : t.val < 32) : k0_off1 (grid0.coords t) = ![8 * t.val, 0] := by
  revert t; decide +kernel

/-- A pool step adds its eight pooled rows to the scratch. -/
theorem tracked_pool (h : Tracked m c t.val S0 S1 S2 S3) (ht : t.val < 32) (hc : k0_cond1 (grid0.coords t) = 1#1)
    (X : FVec Ideal S8x128x2048 .f32) (hX : k0_pay1 (F := Ideal) X = neckRows m c t.val) :
    Tracked m c (t.val + 1) (putRows (F := Ideal) (grid0.coords t) hc S0 (k0_pay2 (F := Ideal) X)) S1 S2 S3 := by
  refine ⟨fun b ch hb => ?_, fun h' => absurd h' (by omega)⟩
  unfold putRows
  rcases Nat.lt_or_ge b.val (8 * t.val) with hlt | hge
  · refine (View.read_writes_cons_rows_of_not_mem (Val := Elt Ideal) (sc0).view S0 (k0_off1_inb (grid0.coords t) hc) _ [] (ix2 b ch)
      (off_eq t ht) rfl (Or.inl hlt)).trans ?_
    exact h.1 b ch hlt
  · refine (View.read_writes_cons_rows_of_mem (Val := Elt Ideal) (sc0).view S0 (k0_off1_inb (grid0.coords t) hc) _ [] (ix2 b ch)
      (ix2 (⟨b.val - 8 * t.val, by omega⟩ : Fin 8) ch) (off_eq t ht) (show b.val = 8 * t.val + (b.val - 8 * t.val) by omega) rfl).trans ?_
    rw [pay2_apply, hX]
    exact congrArg (fun r => neckOf m c (ix2 r ch)) (Fin.ext (show 8 * min t.val 31 + (b.val - 8 * t.val) = b.val by omega))

/-- A head step's word is 32 more than its block's number. -/
theorem word_at (t : Fin cfg0.N) (ht : 32 ≤ t.val) : wordOf (grid0.coords t) = BitVec.ofNat 32 (32 + (t.val - 32)) := by
  show BitVec.ofNat 32 (grid0.coords t 0).val = _
  rw [coord_val t]
  congr 1
  omega

variable (X : FVec Ideal S1024x2048 .f32) (hX : HoldsRows (wOf m c) (t.val - 32) X) (hT : ∀ y, (tOf m c y).toNat < 10000)
include hX hT

/-- The first head step sets the running rows to those of the first block. -/
theorem tracked_first (h : Tracked m c t.val S0 S1 S2 S3) (ht : t.val = 32) :
    Tracked m c (t.val + 1) (neckOf m c) (k0_pay13 (F := Ideal) (wordOf (grid0.coords t)) X (neckOf m c))
      (k0_pay14 (F := Ideal) (wordOf (grid0.coords t)) X (neckOf m c))
      (k0_pay15 (F := Ideal) (wordOf (grid0.coords t)) X (neckOf m c) (tOf m c)) := by
  refine ⟨fun _ _ _ => rfl, fun _ => ?_⟩
  rw [word_at t (by omega)]
  rw [show t.val - 32 = 0 by omega] at hX ⊢
  rw [show t.val + 1 - 32 = 1 by omega]
  exact ⟨maxAt_one _ _ X hX, massAt_one _ _ X hX, hitAt_one _ _ _ X hX hT⟩

/-- A later head step brings the running rows one block further. -/
theorem tracked_later (h : Tracked m c t.val S0 S1 S2 S3) (ht : 33 ≤ t.val) :
    Tracked m c (t.val + 1) (neckOf m c) (k0_pay5 (F := Ideal) (k0_pay10 (F := Ideal) (wordOf (grid0.coords t)) X (neckOf m c)) S1)
      (k0_pay4 (F := Ideal) (k0_pay10 (F := Ideal) (wordOf (grid0.coords t)) X (neckOf m c))
        (k0_pay11 (F := Ideal) (wordOf (grid0.coords t)) X (neckOf m c)) S1 S2)
      (k0_pay6 (F := Ideal) (k0_pay12 (F := Ideal) (wordOf (grid0.coords t)) X (neckOf m c) (tOf m c)) S3) := by
  obtain ⟨e1, e2, e3⟩ := h.2 ht
  have hk : t.val - 32 < 10 := by have : t.val < 42 := t.isLt; omega
  refine ⟨fun _ _ _ => rfl, fun _ => ?_⟩
  rw [word_at t (by omega), e1, e2, e3, show t.val + 1 - 32 = t.val - 32 + 1 by omega]
  exact ⟨maxAt_succ _ _ _ hk X hX, massAt_succ _ _ _ hk X hX, hitAt_succ _ _ _ _ hk X hX hT⟩

end Steps

/-! ## A point -/

/-- What a point is given. -/
abbrev givenAt (c : Dev nD) (t : Fin cfg0.N) : sProp 𝕄 :=
  iprop((datV m c).Φ t.castSucc ∗ (datV m c).owesAt () t.castSucc
    ∗ (∃ d, owns (c : Thread nD τ) ((cfg0.win 0).stage (cfg0.slots t 0)) fullShare ((datV m c).before 0 t d))
    ∗ (∃ d, owns (c : Thread nD τ) ((cfg0.win 1).stage (cfg0.slots t 1)) fullShare ((datV m c).before 1 t d))
    ∗ (∃ d, owns (c : Thread nD τ) ((cfg0.win 2).stage (cfg0.slots t 2)) fullShare ((datV m c).before 2 t d))
    ∗ (∃ d, owns (c : Thread nD τ) ((cfg0.win 3).stage (cfg0.slots t 3)) fullShare ((datV m c).before 3 t d))
    ∗ (∃ d, owns (c : Thread nD τ) ((cfg0.win 4).stage (cfg0.slots t 4)) fullShare ((datV m c).before 4 t d))
    ∗ (∃ d, owns (c : Thread nD τ) ((cfg0.win 5).stage (cfg0.slots t 5)) fullShare ((datV m c).before 5 t d))
    ∗ (∃ d, owns (c : Thread nD τ) ((cfg0.win 6).stage (cfg0.slots t 6)) fullShare ((datV m c).before 6 t d)))

/-- What a point gives back. -/
abbrev leftAt (c : Dev nD) (t : Fin cfg0.N) : sProp 𝕄 :=
  iprop((datV m c).Φ t.succ ∗ (datV m c).owesAt () t.succ
    ∗ (datV m c).leaves 0 t ∗ (datV m c).leaves 1 t ∗ (datV m c).leaves 2 t ∗ (datV m c).leaves 3 t ∗ (datV m c).leaves 4 t
    ∗ (datV m c).leaves 5 t ∗ (datV m c).leaves 6 t)

/-- The staging buffers of point `t` and the scratch. -/
abbrev heldAt (c : Dev nD) (t : Fin cfg0.N) (X1 : IVec S1x256 32) (X2 : FVec Ideal S8x128x2048 .f32) (X3 : FVec Ideal S1024x2048 .f32)
    (X4 X5 : FVec Ideal S1024x256 .f32) (X6 : FVec Ideal S8x2048 .f32) (X7 : FVec Ideal S1x256 .f32) (S0 : FVec Ideal S256x2048 .f32)
    (S1 S2 S3 : FVec Ideal S1x256 .f32) : sProp 𝕄 :=
  held (F := Ideal) c ((cfg0.win 0).stage (cfg0.slots t 0))
    ((cfg0.win 1).stage (cfg0.slots t 1))
    ((cfg0.win 2).stage (cfg0.slots t 2))
    ((cfg0.win 3).stage (cfg0.slots t 3))
    ((cfg0.win 4).stage (cfg0.slots t 4))
    ((cfg0.win 5).stage (cfg0.slots t 5))
    ((cfg0.win 6).stage (cfg0.slots t 6)) X1 X2 X3 X4 X5 X6 X7 S0 S1 S2 S3

/-- What a point leaves, from the contents the body left. -/
theorem left_of (c : Dev nD) (t : Fin cfg0.N) {X1 : IVec S1x256 32} {X2 : FVec Ideal S8x128x2048 .f32} {X3 : FVec Ideal S1024x2048 .f32}
    {X4 X5 : FVec Ideal S1024x256 .f32} {X6 : FVec Ideal S8x2048 .f32} {X7 : FVec Ideal S1x256 .f32} {S0 : FVec Ideal S256x2048 .f32}
    {S1 S2 S3 : FVec Ideal S1x256 .f32} (hS : Tracked m c (t.val + 1) S0 S1 S2 S3)
    (l0 : owns (c : Thread nD τ) ((cfg0.win 0).stage (cfg0.slots t 0)) fullShare X1 ⊢ ((datV m c).leaves 0 t : sProp 𝕄))
    (l1 : owns (c : Thread nD τ) ((cfg0.win 1).stage (cfg0.slots t 1)) fullShare X2 ⊢ ((datV m c).leaves 1 t : sProp 𝕄))
    (l2 : owns (c : Thread nD τ) ((cfg0.win 2).stage (cfg0.slots t 2)) fullShare X3 ⊢ ((datV m c).leaves 2 t : sProp 𝕄))
    (l3 : owns (c : Thread nD τ) ((cfg0.win 3).stage (cfg0.slots t 3)) fullShare X4 ⊢ ((datV m c).leaves 3 t : sProp 𝕄))
    (l4 : owns (c : Thread nD τ) ((cfg0.win 4).stage (cfg0.slots t 4)) fullShare X5 ⊢ ((datV m c).leaves 4 t : sProp 𝕄))
    (l5 : owns (c : Thread nD τ) ((cfg0.win 5).stage (cfg0.slots t 5)) fullShare X6 ⊢ ((datV m c).leaves 5 t : sProp 𝕄))
    (l6 : owns (c : Thread nD τ) ((cfg0.win 6).stage (cfg0.slots t 6)) fullShare X7 ⊢ ((datV m c).leaves 6 t : sProp 𝕄)) :
    iprop(heldAt c t X1 X2 X3 X4 X5 X6 X7 S0 S1 S2 S3 ∗ (∃ r, prngReg c r) ∗ (datV m c).owesAt () t.castSucc) ⊢ leftAt m c t := by
  unfold leftAt
  rw [show (datV m c).owesAt () t.succ = (datV m c).owesAt () t.castSucc from rfl, show (datV m c).Φ t.succ = scratchAt m c (t.val + 1) from rfl]
  iintro ⟨⟨H1, H2, H3, H4, H5, H6, H7, G0, G1, G2, G3⟩, Hr, Ho⟩
  isplitl [G0 G1 G2 G3 Hr]
  · unfold scratchAt
    isplitr [Hr]
    · iexists S0, S1, S2, S3
      isplitr
      · ipureintro; exact hS
      isplitl [G0]; · iexact G0
      isplitl [G1]; · iexact G1
      isplitl [G2]; · iexact G2
      iexact G3
    · iexact Hr
  isplitl [Ho]; · iexact Ho
  isplitl [H1]; · iapply l0; iexact H1
  isplitl [H2]; · iapply l1; iexact H2
  isplitl [H3]; · iapply l2; iexact H3
  isplitl [H4]; · iapply l3; iexact H4
  isplitl [H5]; · iapply l4; iexact H5
  isplitl [H6]; · iapply l5; iexact H6
  iapply l6; iexact H7

/-- The body's triple at a point, with what is left put in. -/
theorem run_then {A B R L : sProp 𝕄} {P : (PUnit → sProp 𝕄) → sProp 𝕄} (trip : ∀ K, iprop(A ∗ (B -∗ K ⟨⟩)) ⊢ P K) (h : iprop(B ∗ R) ⊢ L) :
    iprop(A ∗ R) ⊢ P (fun _ => L) := by
  iintro ⟨H, R⟩
  iapply trip
  isplitl [H]; · iexact H
  iintro HB
  iapply h
  isplitl [HB]; · iexact HB
  iexact R

/-- The run of the body at a point. -/
abbrev runAt (t : Fin cfg0.N) (c : Dev nD) (K : PUnit → sProp 𝕄) : sProp 𝕄 :=
  wp frame (wpE (defs₀ (F := Ideal)) Variants.none c none) Set.univ (bodyAt0 (F := Ideal) t) K

section Point

variable (c : Dev nD) (t : Fin cfg0.N) (hT : ∀ y, (tOf m c y).toNat < 10000)
  (d2 d3 d4 d5 d6) (S0 : FVec Ideal S256x2048 .f32) (S1 S2 S3 : FVec Ideal S1x256 .f32)
  (h : Tracked m c t.val S0 S1 S2 S3)
include h

/-- A point's contents before the body runs. -/
abbrev foundAt : sProp 𝕄 :=
  heldAt c t (tOf m c) (iblk m c 1 t) ((datV m c).before 2 t d2) ((datV m c).before 3 t d3) ((datV m c).before 4 t d4)
    ((datV m c).before 5 t d5) ((datV m c).before 6 t d6) S0 S1 S2 S3

/-- A pool step takes what it finds to what it should leave; -/
theorem point_pool (ht : t.val < 32) :
    iprop(foundAt m c t d2 d3 d4 d5 d6 S0 S1 S2 S3 ∗ (∃ r, prngReg c r) ∗ (datV m c).owesAt () t.castSucc)
      ⊢ runAt t c fun _ => leftAt m c t := by
  obtain ⟨p1, p2⟩ := pool_point t ht
  refine run_then (P := runAt t c) (fun K => run_pool (F := Ideal) c (grid0.coords t) _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) _
      (hstage0_5 ((cfg0.slots t 5).cast nbuf0_5)) _ (hstage0_6 ((cfg0.slots t 6).cast nbuf0_6))
    _ _ _ _ _ _ _ _ _ _ _ p1 p2 K) ?_
  refine left_of m c t (tracked_pool h ht p1 (iblk m c 1 t) (pay1_iblk m c t)) (leaves0 m c t) (leaves1 m c t)
    (leaves2 m c t _ (before2 m c t d2)) (found_leaves m c t 3 ?_ ?_ d3) (found_leaves m c t 4 ?_ ?_ d4) ?_ (found_leaves m c t 6 ?_ ?_ d6)
  · rw [idle3, decide_eq_true ht]
  · rw [flush3, decide_eq_false (by omega)]
  · rw [idle4, decide_eq_true ht]
  · rw [flush4, decide_eq_false (by omega)]
  · rw [pay1_iblk]; exact leaves5_pool m c t ht
  · rw [idle6, decide_eq_true (by omega)]
  · rw [flush6, decide_eq_false (by omega)]

include hT

/-- so does the first head step, -/
theorem point_first (ht : t.val = 32) :
    iprop(foundAt m c t d2 d3 d4 d5 d6 S0 S1 S2 S3 ∗ (∃ r, prngReg c r) ∗ (datV m c).owesAt () t.castSucc)
      ⊢ runAt t c fun _ => leftAt m c t := by
  obtain ⟨p1, p2⟩ := head_point t (by omega)
  obtain ⟨p3, p4⟩ := first_point t ht
  have e := h.neck (by omega)
  subst e
  refine run_then (P := runAt t c) (fun K => run_first (F := Ideal) c (grid0.coords t) _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) _
      (hstage0_5 ((cfg0.slots t 5).cast nbuf0_5)) _ (hstage0_6 ((cfg0.slots t 6).cast nbuf0_6))
    _ _ _ _ _ _ _ _ _ _ _ p1 p2 p3 p4 (fun h5 => by have := (last_point t).mp h5; omega) K) ?_
  refine left_of m c t (tracked_first _ (before2 m c t d2) hT h ht) (leaves0 m c t) (leaves1 m c t)
    (leaves2 m c t _ (before2 m c t d2)) (leaves3 m c t (by omega) _ (before2 m c t d2)) (leaves4 m c t (by omega) _ (before2 m c t d2))
    (leaves5_head m c t (by omega) d5) (found_leaves m c t 6 ?_ ?_ d6)
  · rw [idle6, decide_eq_true (by omega)]
  · rw [flush6, decide_eq_false (by omega)]

/-- a later one that is not the last, -/
theorem point_mid (ht : 33 ≤ t.val) (ht' : t.val < 41) :
    iprop(foundAt m c t d2 d3 d4 d5 d6 S0 S1 S2 S3 ∗ (∃ r, prngReg c r) ∗ (datV m c).owesAt () t.castSucc)
      ⊢ runAt t c fun _ => leftAt m c t := by
  obtain ⟨p1, p2⟩ := head_point t (by omega)
  obtain ⟨p3, p4⟩ := later_point t ht
  have e := h.neck (by omega)
  subst e
  refine run_then (P := runAt t c) (fun K => run_mid (F := Ideal) c (grid0.coords t) _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) _
      (hstage0_5 ((cfg0.slots t 5).cast nbuf0_5)) _ (hstage0_6 ((cfg0.slots t 6).cast nbuf0_6))
    _ _ _ _ _ _ _ _ _ _ _ p1 p2 p3 p4 (fun h5 => by have := (last_point t).mp h5; omega) K) ?_
  refine left_of m c t (tracked_later _ (before2 m c t d2) hT h ht) (leaves0 m c t) (leaves1 m c t)
    (leaves2 m c t _ (before2 m c t d2)) (leaves3 m c t (by omega) _ (before2 m c t d2)) (leaves4 m c t (by omega) _ (before2 m c t d2))
    (leaves5_head m c t (by omega) d5) (found_leaves m c t 6 ?_ ?_ d6)
  · rw [idle6, decide_eq_true (by omega)]
  · rw [flush6, decide_eq_false (by omega)]

/-- and the last one. -/
theorem point_last (ht : t.val = 41) :
    iprop(foundAt m c t d2 d3 d4 d5 d6 S0 S1 S2 S3 ∗ (∃ r, prngReg c r) ∗ (datV m c).owesAt () t.castSucc)
      ⊢ runAt t c fun _ => leftAt m c t := by
  obtain ⟨p1, p2⟩ := head_point t (by omega)
  obtain ⟨p3, p4⟩ := later_point t (by omega)
  have e := h.neck (by omega)
  subst e
  have h' := tracked_later _ (before2 m c t d2) hT h (by omega)
  obtain ⟨e1, e2, e3⟩ := h'.2 (by omega)
  refine run_then (P := runAt t c) (fun K => run_last (F := Ideal) c (grid0.coords t) _ (hstage0_0 ((cfg0.slots t 0).cast nbuf0_0)) _ (hstage0_1 ((cfg0.slots t 1).cast nbuf0_1)) _
      (hstage0_2 ((cfg0.slots t 2).cast nbuf0_2)) _ (hstage0_3 ((cfg0.slots t 3).cast nbuf0_3)) _ (hstage0_4 ((cfg0.slots t 4).cast nbuf0_4)) _
      (hstage0_5 ((cfg0.slots t 5).cast nbuf0_5)) _ (hstage0_6 ((cfg0.slots t 6).cast nbuf0_6))
    _ _ _ _ _ _ _ _ _ _ _ p1 p2 p3 p4 ((last_point t).mpr ht) K) ?_
  refine left_of m c t h' (leaves0 m c t) (leaves1 m c t)
    (leaves2 m c t _ (before2 m c t d2)) (leaves3 m c t (by omega) _ (before2 m c t d2)) (leaves4 m c t (by omega) _ (before2 m c t d2))
    (leaves5_head m c t (by omega) d5) ?_
  rw [e1, e2, e3, show t.val + 1 - 32 = 10 by omega]
  exact leaves6_last m c t ht

/-- Every point takes what it finds to what it should leave. -/
theorem point :
    iprop(foundAt m c t d2 d3 d4 d5 d6 S0 S1 S2 S3 ∗ (∃ r, prngReg c r) ∗ (datV m c).owesAt () t.castSucc)
      ⊢ runAt t c fun _ => leftAt m c t := by
  have hlt : t.val < 42 := t.isLt
  rcases Nat.lt_or_ge t.val 32 with h1 | h1
  · exact point_pool m c t d2 d3 d4 d5 d6 S0 S1 S2 S3 h h1
  rcases Nat.eq_or_lt_of_le h1 with h2 | h2
  · exact point_first m c t hT d2 d3 d4 d5 d6 S0 S1 S2 S3 h h2.symm
  rcases Nat.lt_or_ge t.val 41 with h3 | h3
  · exact point_mid m c t hT d2 d3 d4 d5 d6 S0 S1 S2 S3 h h2 h3
  · exact point_last m c t hT d2 d3 d4 d5 d6 S0 S1 S2 S3 h (by omega)

end Point

/-- The body takes what a point is given to what it gives back, contents included. -/
theorem sound_values (c : Dev nD) (t : Fin cfg0.N) (hT : ∀ y, (tOf m c y).toNat < 10000) :
    givenAt m c t ⊢ runAt t c fun _ => leftAt m c t := by
  unfold givenAt
  rw [show (datV m c).Φ t.castSucc = scratchAt m c t.val from rfl]
  unfold scratchAt
  iintro ⟨⟨⟨%S0, %S1, %S2, %S3, %hS, G0, G1, G2, G3⟩, Hr⟩, Ho, ⟨%d0, H1⟩, ⟨%d1, H2⟩, ⟨%d2, H3⟩, ⟨%d3, H4⟩, ⟨%d4, H5⟩, ⟨%d5, H6⟩, ⟨%d6, H7⟩⟩
  rw [before0 m c t d0, before1 m c t d1]
  iapply point m c t hT d2 d3 d4 d5 d6 S0 S1 S2 S3 hS
  isplitr [Hr Ho]
  · unfold foundAt heldAt held
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [G0]; · iexact G0
    isplitl [G1]; · iexact G1
    isplitl [G2]; · iexact G2
    iexact G3
  isplitl [Hr]; · iexact Hr
  iexact Ho

/-- The body's obligation at every point, contents included. -/
theorem obligation_values (hT : ∀ c y, (tOf m c y).toNat < 10000) (c : Dev nD) :
    BodyObligationLoose (datsV m 0 c) (defs₀ (F := Ideal)) Variants.none () Set.univ := fun t => by
  rw [bigSep_W0, bigSep_W0, defs₀_row]
  exact triple_restated (sound_values m c t (hT c)) rfl .rfl fun _ => .rfl

/-! ## The run -/

/-- At the start nothing is asked of the scratch. -/
theorem scratch_in (c : Dev nD) : (Pipeline.ΦA spec0 c : sProp 𝕄) ⊢ scratchAt m c 0 := by
  unfold Pipeline.ΦA scratchAt
  rw [scratch_eq]
  iintro ⟨⟨⟨%S0, G0⟩, ⟨%S1, G1⟩, ⟨%S2, G2⟩, ⟨%S3, G3⟩⟩, Hr⟩
  isplitr [Hr]
  · iexists S0, S1, S2, S3
    isplitr
    · ipureintro
      exact ⟨fun b ch hb => absurd hb (by omega), fun h => absurd h (by omega)⟩
    isplitl [G0]; · iexact G0
    isplitl [G1]; · iexact G1
    isplitl [G2]; · iexact G2
    iexact G3
  · iexact Hr

/-- At the end the scratch's contents are forgotten. -/
theorem scratch_out (c : Dev nD) (t : ℕ) : scratchAt m c t ⊢ (Pipeline.ΦA spec0 c : sProp 𝕄) := by
  unfold Pipeline.ΦA scratchAt
  rw [scratch_eq]
  iintro ⟨⟨%S0, %S1, %S2, %S3, %hS, G0, G1, G2, G3⟩, Hr⟩
  isplitr [Hr]
  · isplitl [G0]; · iexists S0; iexact G0
    isplitl [G1]; · iexists S1; iexact G1
    isplitl [G2]; · iexists S2; iexact G2
    iexists S3; iexact G3
  · iexact Hr

set_option backward.isDefEq.respectTransparency.types false in
/-- Every fair run of @main over the extended reals ends with the pipeline's arrays at what the points leave, the lines after the region run. -/
theorem run_values (hT : ∀ c y, (tOf m c y).toNat < 10000) :
    θ_run defs (onTc (τ := τ) (main (F := Ideal))) (s₀ m ρ)
      (fun r => Pipeline.FramePost cfgs (datsV m) (0 : Fin 1) (Pipeline.afterTail₀ cfgs (datsV m) (0 : Fin 1) (V0 m) [hostOps1]) r
        ∧ r.2.sem = fun _ => 0) :=
  Pipeline.θ_run_frame_around_track cfgs (datsV m) (0 : Fin 1) launch0 defs₀ Variants.none m ρ main
    (hbody := obligation_values m hT) (hshare := fun c => (datsV m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hin := scratch_in m) (hout := fun c => scratch_out m c _)
    (Q' := _) (hQ' := fun _ h => h)

end Cert.KernelIdeal.Hand

end
-- ==== Proof.Arrays.lean ====
/-
  What the arrays hold after the kernel's run over the extended reals, and what the buffers the region reads hold of the arguments.
-/
module

public import proofs.«01_k».proof.Proof.RunIdeal

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-! ## The arrays the region writes -/

/-- The scores, class by batch row. -/
def scoreArr (c : Dev nD) : FVec Ideal S10000x256 .f32 := fun y => score (wOf m c) (neckOf m c) (y 1) (y 0)

/-- The blocks of the first score array cover it. -/
theorem cov3 : (cfg0.win 3).Covers := by decide +kernel

/-- A row of a point's block of scores is, where the block is written back, the row of the array it is written to. -/
theorem rows_at3 (c : Dev nD) (t : Fin cfg0.N) (j : ((cfg0.win 3).xblock (cfg0.grid.coords t)).Idx) (h : 1024 * (t.val - 32) + (j 0).val < 10000) :
    score (wOf m c) (neckOf m c) (win0_3.xinj (grid0.coords t) j 1) ⟨1024 * (t.val - 32) + (j 0).val, h⟩
      = scoreArr m c ((win0_3.blk t).view.emb j) := by
  unfold scoreArr
  refine congrArg₂ (score (wOf m c) (neckOf m c)) ?_ ?_
  · apply Fin.ext
    blk_simp [idx3_1 t]
  · apply Fin.ext
    blk_simp [idx3_0 t]
    show 1024 * (t.val - 32) + (j 0).val = (t.val - 32) * 1024 + (j 0).val
    omega

/-- The first score array ends holding all the scores. -/
theorem arr3 (c : Dev nD) : (datV m c).arrAt 3 cfg0.N = scoreArr m c := by
  refine (datV m c).arrAt_eq_of_covers 3 _ cov3 fun t hf j => ?_
  have hb : 1024 * (t.val - 32) + (j 0).val < 10000 := by
    have h0 : (j 0).val < win0_3.xsize (grid0.coords t) 0 := (j 0).isLt
    have ht : t.val < 42 := t.isLt
    rw [size3_0] at h0; omega
  have e : scoreRows m c t.val (win0_3.xinj (grid0.coords t) j) = scoreArr m c ((win0_3.blk t).view.emb j) :=
    (dif_pos (α := EReal) hb).trans (rows_at3 m c t j hb)
  exact e

/-- The blocks of the second score array cover it. -/
theorem cov4 : (cfg0.win 4).Covers := by decide +kernel

/-- The same of the second score array's rows. -/
theorem rows_at4 (c : Dev nD) (t : Fin cfg0.N) (j : ((cfg0.win 4).xblock (cfg0.grid.coords t)).Idx) (h : 1024 * (t.val - 32) + (j 0).val < 10000) :
    score (wOf m c) (neckOf m c) (win0_4.xinj (grid0.coords t) j 1) ⟨1024 * (t.val - 32) + (j 0).val, h⟩
      = scoreArr m c ((win0_4.blk t).view.emb j) := by
  unfold scoreArr
  refine congrArg₂ (score (wOf m c) (neckOf m c)) ?_ ?_
  · apply Fin.ext
    blk_simp [idx4_1 t]
  · apply Fin.ext
    blk_simp [idx4_0 t]
    show 1024 * (t.val - 32) + (j 0).val = (t.val - 32) * 1024 + (j 0).val
    omega

/-- The second score array ends holding all the scores. -/
theorem arr4 (c : Dev nD) : (datV m c).arrAt 4 cfg0.N = scoreArr m c := by
  refine (datV m c).arrAt_eq_of_covers 4 _ cov4 fun t hf j => ?_
  have hb : 1024 * (t.val - 32) + (j 0).val < 10000 := by
    have h0 : (j 0).val < win0_4.xsize (grid0.coords t) 0 := (j 0).isLt
    have ht : t.val < 42 := t.isLt
    rw [size4_0] at h0; omega
  have e : scoreRows m c t.val (win0_4.xinj (grid0.coords t) j) = scoreArr m c ((win0_4.blk t).view.emb j) :=
    (dif_pos (α := EReal) hb).trans (rows_at4 m c t j hb)
  exact e

/-- The array of pooled features ends holding all of them. -/
theorem arr5 (c : Dev nD) : (datV m c).arrAt 5 cfg0.N = neckOf m c := by
  refine (datV m c).arrAt_eq_of_covers 5 _ (by decide +kernel) fun t hf j => ?_
  show neckOf m c _ = neckOf m c _
  refine congrArg (neckOf m c) ?_
  blk_ext [idx5_0 t, idx5_1 t]

/-- The array of weights ends holding the weights of the last point's running values. -/
theorem arr6 (c : Dev nD) : (datV m c).arrAt 6 cfg0.N = weightsOf m c := by
  refine (datV m c).arrAt_eq_of_after_last 6 ⟨41, by decide⟩ (by decide +kernel) _ fun j => ?_
  rfl

/-! ## The run's results -/

/-- The windows' arrays are distinct buffers. -/
theorem arr_inj : Function.Injective (Pipeline.arrRef (cfgs 0).spec) := by decide

/-- The scores, batch row by class: what both of the kernel's first results end holding. -/
def scoresOut (c : Dev nD) : FVec Ideal S256x10000 .f32 := fun y => score (wOf m c) (neckOf m c) (y 0) (y 1)

/-- The first result is the first score array transposed. -/
theorem tail_v4 (c : Dev nD) : Pipeline.afterTail₀ cfgs (datsV m) (0 : Fin 1) (V0 m) [hostOps1] c main_v4 = scoresOut m c := by
  unfold Pipeline.afterTail₀
  simp only [List.flatten_cons, List.flatten_nil, List.append_nil, hostOps1]
  after_results
  rw [show (Pipeline.withArrays (cfgs 0).spec c (V0 m c) (fun w => (datsV m 0 c).arrAt w (cfgs 0).N) (Proc.tc.devRef main_v3_0) : FVec Ideal S10000x256 .f32)
      = scoreArr m c from (Pipeline.withArrays_arr (cfgs 0).spec arr_inj c (V0 m c) _ 3).trans (arr3 m c)]
  funext y; idx_vars y
  pointwise [scoreArr, scoresOut]

/-- The second result is the second score array transposed. -/
theorem tail_v5 (c : Dev nD) : Pipeline.afterTail₀ cfgs (datsV m) (0 : Fin 1) (V0 m) [hostOps1] c main_v5 = scoresOut m c := by
  unfold Pipeline.afterTail₀
  simp only [List.flatten_cons, List.flatten_nil, List.append_nil, hostOps1]
  after_results
  rw [show (Pipeline.withArrays (cfgs 0).spec c (V0 m c) (fun w => (datsV m 0 c).arrAt w (cfgs 0).N) (Proc.tc.devRef main_v3_1) : FVec Ideal S10000x256 .f32)
      = scoreArr m c from (Pipeline.withArrays_arr (cfgs 0).spec arr_inj c (V0 m c) _ 4).trans (arr4 m c)]
  funext y; idx_vars y
  pointwise [scoreArr, scoresOut]

/-- Every fair run of @main over the extended reals ends with these results, the arguments and the semaphores as they started. -/
theorem results (hT : ∀ c y, (tOf m c y).toNat < 10000) :
    θ_run defs (onTc (τ := τ) (main (F := Ideal))) ⟨m, fun _ => 0, ρ⟩ (fun r => (∀ c : Dev nD,
      r.2.mem ((c.tc : Thread nD τ).loc main_v4) = scoresOut m c
      ∧ r.2.mem ((c.tc : Thread nD τ).loc main_v5) = scoresOut m c
      ∧ r.2.mem ((c.tc : Thread nD τ).loc main_v3_2) = neckOf m c
      ∧ r.2.mem ((c.tc : Thread nD τ).loc main_v3_3) = weightsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_v4 (Pipeline.mem_restRefs_of main_v4 (by decide) (by decide))).trans (tail_v4 m c),
     ((h.1 c).2 main_v5 (Pipeline.mem_restRefs_of main_v5 (by decide) (by decide))).trans (tail_v5 m c),
     ((h.1 c).1 5).trans (arr5 m c),
     ((h.1 c).1 6).trans (arr6 m c),
     ((h.1 c).2 main_arg0 (Pipeline.mem_restRefs_of main_arg0 (by decide) (by decide))).trans (W_main_arg0 m (datsV m) c),
     ((h.1 c).2 main_arg1 (Pipeline.mem_restRefs_of main_arg1 (by decide) (by decide))).trans (W_main_arg1 m (datsV m) c),
     ((h.1 c).1 2).trans (((datsV m 0 c).arrAt_in 2 rfl _).trans (V_main_arg2 m c))⟩, h.2⟩) (run_values m ρ hT)

/-! ## The buffers the region reads, of the arguments -/

/-- The arguments: the feature maps, -/
abbrev mapsOf (c : Dev nD) : FVec Ideal S256x2048x16x8 .f32 := m ((c : Thread nD τ).loc main_arg0)
/-- The targets, -/
abbrev goalsOf (c : Dev nD) : IVec S256 32 := m ((c : Thread nD τ).loc main_arg1)
/-- and the classes' weights. -/
abbrev classesOf (c : Dev nD) : FVec Ideal S10000x2048 .f32 := m ((c : Thread nD τ).loc main_arg2)

/-- The region reads the classes' weights as they were given. -/
theorem wOf_eq (c : Dev nD) : wOf m c = classesOf m c := V_main_arg2 m c

/-- The region reads the targets as one row. -/
theorem tOf_apply (c : Dev nD) (b : Fin 256) : tOf m c (ix2 0 b) = goalsOf m c (ix1 b) := by
  have e : tOf m c = shapeCast S1x256 (goalsOf m c) shapeCasts_S256_S1x256 := by
    unfold tOf V V0
    simp only [List.flatten_cons, List.flatten_nil, List.append_nil, hostOps0]
    after_results
    rfl
  rw [e]
  pointwise

/-- The region reads the feature maps with the two spatial axes merged and the channels last. -/
theorem xOf_apply (c : Dev nD) (b : Fin 256) (l : Fin 128) (ch : Fin 2048) :
    xOf m c (ix3 b l ch) = mapsOf m c (ix4 b ch ⟨l.val / 8, by omega⟩ ⟨l.val % 8, by omega⟩) := by
  have e : xOf m c = shapeCast S256x128x2048 (transpose S256x16x8x2048 [0, 2, 3, 1] (mapsOf m c)
      transposes_S256x2048x16x8_S256x16x8x2048_0_2_3_1) shapeCasts_S256x16x8x2048_S256x128x2048 := by
    unfold xOf V V0
    simp only [List.flatten_cons, List.flatten_nil, List.append_nil, hostOps0]
    after_results
    rfl
  rw [e]
  pointwise

end Cert.KernelIdeal.Hand

end
-- ==== Proof.Reference.lean ====
/-
  The reference's results over the extended reals, element by element: the pooled features, the scores, and the new weights, each
  row's target score read where the target lies in range.
-/
module

public import proofs.«01_k».proof.Proof.Tile
public import proofs.«01_k».proof.Proof.Gen.ReferenceIdeal.Run
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe

/-! ## The reference by stages -/

/-- The mean over the two last axes. -/
def refNeck (x : FVec Ideal S256x2048x16x8 .f32) : FVec Ideal S256x2048 .f32 :=
  Host.divf (Host.reduceAdd x (constant S_ .f32 0x00000000#32) reducesTo_S256x2048x16x8_S256x2048_d2_3 h_S_)
    (broadcastInDim S256x2048 ![] bcast_S_S256x2048 (constant S_ .f32 0x43000000#32))

/-- The scores. -/
def refScores (n : FVec Ideal S256x2048 .f32) (w : FVec Ideal S10000x2048 .f32) : FVec Ideal S256x10000 .f32 :=
  Host.dotGeneral dot_S256x2048_S10000x2048_S256x10000_1_1_0_0_n_n none n w

/-- The greatest score of each row; -/
def refMax (L : FVec Ideal S256x10000 .f32) : FVec Ideal S256 .f32 :=
  maximumf (broadcastInDim S256 ![] bcast_S_S256 (constant S_ .f32 0xFF800000#32))
    (Host.reduce FloatOps.maximumf L (constant S_ .f32 0xFF800000#32) reducesTo_S256x10000_S256_d1 h_S_)
/-- a row's value at every class; -/
def spread (v : FVec Ideal S256 .f32) : FVec Ideal S256x10000 .f32 :=
  broadcastInDim S256x10000 ![0, 1] bcast_S256x1_S256x10000_0_1 (broadcastInDim S256x1 ![0] bcast_S256_S256x1_0 v)
/-- the exponentials relative to it; -/
def refExp (L : FVec Ideal S256x10000 .f32) : FVec Ideal S256x10000 .f32 := Host.exp (subf L (spread (refMax L)))
/-- the probabilities. -/
def refSoft (L : FVec Ideal S256x10000 .f32) : FVec Ideal S256x10000 .f32 :=
  Host.divf (refExp L) (spread (Host.reduceAdd (refExp L) (constant S_ .f32 0x00000000#32) reducesTo_S256x10000_S256_d1 h_S_))

/-- The targets as a column, negative ones counted from the end; -/
def refIdx (g : IVec S256 32) : IVec S256x1x1 32 :=
  shapeCast S256x1x1 (select (cmpi .slt (broadcastInDim S256x1 ![0] bcast_S256_S256x1_0 g) (broadcastInDim S256x1 ![] bcast_S_S256x1 (constantI S_ 32 0#32)))
    (addi (broadcastInDim S256x1 ![0] bcast_S256_S256x1_0 g) (broadcastInDim S256x1 ![] bcast_S_S256x1 (constantI S_ 32 10000#32)))
    (broadcastInDim S256x1 ![0] bcast_S256_S256x1_0 g)) shapeCasts_S256x1_S256x1x1
/-- whether each is a class; -/
def refMask (g : IVec S256 32) : IVec S256x1 1 :=
  Host.reduce IntOp.andi (andi (cmpi .sge (refIdx g) (broadcastInDim S256x1x1 ![] bcast_S_S256x1x1 (constantI S_ 32 0#32)))
    (cmpi .sle (refIdx g) (broadcastInDim S256x1x1 ![0, 1, 2] bcast_S1x1x1_S256x1x1_0_1_2 (broadcastInDim S1x1x1 ![2] bcast_S1_S1x1x1_2 (constantI S1 32 9999#32)))))
    (constantI S_ 1 1#1) reducesTo_S256x1x1_S256x1_d2 h_S_
/-- the probability of each row's target. -/
def refHit (P : FVec Ideal S256x10000 .f32) (g : IVec S256 32) : FVec Ideal S256 .f32 :=
  shapeCast S256 (select (refMask g) (Host.gather gather_S256x10000_S256x1x1_S256x1_n_1_0_0_1_2_11 P (refIdx g))
    (broadcastInDim S256x1 ![] bcast_S_S256x1 (constant S_ .f32 0x7FC00000#32))) shapeCasts_S256x1_S256

/-- The weights before they are normalised; -/
def refDamp (p : FVec Ideal S256 .f32) : FVec Ideal S256 .f32 :=
  Host.tanh (mulf (broadcastInDim S256 ![] bcast_S_S256 (constant S_ .f32 0x3F99999A#32))
    (Host.divf p (mulf (broadcastInDim S256 ![] bcast_S_S256 (constant S_ .f32 0x00000000#32)) (broadcastInDim S256 ![] bcast_S_S256 (constant S_ .f32 0x461C4000#32)))))
/-- and the new weights. -/
def refWeights (p : FVec Ideal S256 .f32) : FVec Ideal S1x256 .f32 :=
  broadcastInDim S1x256 ![1] bcast_S256_S1x256_1 (Host.divf (mulf (broadcastInDim S256 ![] bcast_S_S256 (constant S_ .f32 0x43800000#32)) (refDamp p))
    (broadcastInDim S256 ![] bcast_S_S256 (Host.reduceAdd (refDamp p) (constant S_ .f32 0x00000000#32) reducesTo_S256_S_d0 h_S_)))

variable (m : (ℓ : Loc nD τ sig) → Buf (Elt Ideal) ℓ)

/-- The reference's fourth result is its stages composed. -/
theorem v30_eq (c : Dev nD) : Cert.ReferenceIdeal.Value.res_main_v30 m c
    = refWeights (refHit (refSoft (refScores (refNeck (m ((c : Thread nD τ).loc main_arg0))) (m ((c : Thread nD τ).loc main_arg2)))) (m ((c : Thread nD τ).loc main_arg1))) := by
  unfold Cert.ReferenceIdeal.Value.res_main_v30
  rfl

/-! ## Each stage at an index -/

/-- A sum over sixteen rows of eight is the sum over the 128 positions in order. -/
theorem sum_grid (f : Fin 16 → Fin 8 → EReal) :
    (∑ h : Fin 16, ∑ w : Fin 8, f h w) = ∑ l : Fin 128, f ⟨l.val / 8, by omega⟩ ⟨l.val % 8, by omega⟩ := by
  rw [← Fintype.sum_prod_type']
  refine Fintype.sum_equiv finProdFinEquiv _ _ fun p => ?_
  obtain ⟨h, w⟩ := p
  have e1 : (8 * h.val + w.val) / 8 = h.val := by omega
  have e2 : (8 * h.val + w.val) % 8 = w.val := by omega
  show f h w = f ⟨(finProdFinEquiv (h, w)).val / 8, _⟩ ⟨(finProdFinEquiv (h, w)).val % 8, _⟩
  congr 1
  · exact Fin.ext (by simp only [finProdFinEquiv_apply_val]; omega)
  · exact Fin.ext (by simp only [finProdFinEquiv_apply_val]; omega)

/-- The mean over the two axes is the mean over the 128 positions. -/
theorem refNeck_apply (x : FVec Ideal S256x2048x16x8 .f32) (b : Fin 256) (ch : Fin 2048) :
    refNeck x (ix2 b ch) = Ideal.div (∑ l : Fin 128, x (ix4 b ch ⟨l.val / 8, by omega⟩ ⟨l.val % 8, by omega⟩)) (Ideal.ofBits .f32 0x43000000#32) := by
  pointwise [refNeck]
  rw [sum_grid fun h w => x (ix4 b ch h w)]

/-- The reference's score of a class for a row is the score. -/
theorem refScores_apply (n : FVec Ideal S256x2048 .f32) (w : FVec Ideal S10000x2048 .f32) (b : Fin 256) (k : Fin 10000) :
    refScores n w (ix2 b k) = Cert.KernelIdeal.Hand.score w n b k := by
  pointwise [refScores, Cert.KernelIdeal.Hand.score]
  exact Finset.sum_congr rfl fun ch _ => mul_comm _ _

/-- The host's maximum along a row, at a row. -/
theorem row_max (L : FVec Ideal S256x10000 .f32) (s : FVec Ideal S_ .f32) (b : Fin 256) :
    Host.reduce (max : EReal → EReal → EReal) L s reducesTo_S256x10000_S256_d1 h_S_ (ix1 b) =
      Finset.univ.fold max (s (Shape.Idx.first h_S_)) fun k : Fin 10000 => L (ix2 b k) := by
  pointwise

/-- The maximum of two rows, at an index. -/
theorem two_max (u v : FVec Ideal S256 .f32) (y : S256.Idx) : maximumf u v y = max (u y) (v y) := rfl

/-- The reference's row maximum is the greatest score of the row. -/
theorem refMax_apply (L : FVec Ideal S256x10000 .f32) (b : Fin 256) :
    refMax L (ix1 b) = Finset.univ.sup fun k : Fin 10000 => L (ix2 b k) := by
  unfold refMax
  refine (two_max _ _ _).trans ?_
  refine (congrArg₂ max Cert.KernelIdeal.Hand.lit_bot ((row_max L _ b).trans ?_)).trans (max_eq_right bot_le)
  refine (congrArg (fun z => Finset.univ.fold max z fun k : Fin 10000 => L (ix2 b k)) Cert.KernelIdeal.Hand.lit_bot).trans ?_
  exact Cert.Online.fold_max _ _

/-- The reference's probability of a class: its exponential over the sum of the row's. -/
theorem refSoft_apply (L : FVec Ideal S256x10000 .f32) (b : Fin 256) (k : Fin 10000) :
    refSoft L (ix2 b k) = Ideal.div (Ideal.exp (L (ix2 b k) - refMax L (ix1 b))) (∑ j : Fin 10000, Ideal.exp (L (ix2 b j) - refMax L (ix1 b))) := by
  pointwise [refSoft, refExp, spread]

/-- A class's word read signed is the class. -/
theorem toInt_class (t : BitVec 32) (h : t.toNat < 10000) : t.toInt = t.toNat := by
  rw [BitVec.toInt_eq_toNat_of_lt (by omega)]

/-- A class's word is not negative. -/
theorem not_negative (t : BitVec 32) (h : t.toNat < 10000) : IntOp.cmpi CmpIPredicate.slt t 0#32 = 0#1 := by
  have e : t.slt 0#32 = false := by
    rw [BitVec.slt, toInt_class t h]; simp
  show BitVec.ofBool (t.slt 0#32) = 0#1
  rw [e]; rfl

/-- A class's word passes the lower test of the gather. -/
theorem at_least (t : BitVec 32) (h : t.toNat < 10000) : IntOp.cmpi CmpIPredicate.sge t 0#32 = 1#1 := by
  have e : (0#32).sle t = true := by
    rw [BitVec.sle, toInt_class t h]; simp
  show BitVec.ofBool ((0#32).sle t) = 1#1
  rw [e]; rfl

/-- A class's word passes the upper test of the gather. -/
theorem at_most (t : BitVec 32) (h : t.toNat < 10000) : IntOp.cmpi CmpIPredicate.sle t 9999#32 = 1#1 := by
  have e : t.sle 9999#32 = true := by
    rw [BitVec.sle, toInt_class t h, toInt_class 9999#32 (by decide)]
    simp only [BitVec.toNat_ofNat, decide_eq_true_eq]
    omega
  show BitVec.ofBool (t.sle 9999#32) = 1#1
  rw [e]; rfl

/-- A target that is a class is not wrapped. -/
theorem refIdx_apply (g : IVec S256 32) (b : Fin 256) (h : (g (ix1 b)).toNat < 10000) : refIdx g (ix3 b 0 0) = g (ix1 b) := by
  pointwise [refIdx]
  rw [not_negative _ h]
  rfl

/-- A target that is a class is marked as in range. -/
theorem refMask_apply (g : IVec S256 32) (b : Fin 256) (h : (g (ix1 b)).toNat < 10000) : refMask g (ix2 b 0) = 1#1 := by
  pointwise [refMask]
  rw [Finset.univ_unique, Finset.fold_singleton]
  rw [show (default : Fin 1) = 0 from rfl, refIdx_apply g b h, at_least _ h, at_most _ h]
  rfl

/-- A gather along the classes reads the row's element at its index, clamped. -/
theorem gather_class (P : FVec Ideal S256x10000 .f32) (idx : IVec S256x1x1 32) (b : Fin 256) :
    Host.gather gather_S256x10000_S256x1x1_S256x1_n_1_0_0_1_2_11 P idx (ix2 b 0)
      = P (ix2 b ⟨min (idx (ix3 b 0 0)).toInt.toNat 9999, by omega⟩) := by
  unfold Host.gather
  refine congrArg P (funext fun a => Fin.ext ?_)
  show GatherDims.start _ (ix2 b 0) idx a + GatherDims.batchCoord _ (ix2 b 0) a + GatherDims.offCoord _ (ix2 b 0) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (show (0 : Fin 2) ∈ gather_S256x10000_S256x1x1_S256x1_n_1_0_0_1_2_11.operandBatchingDims from List.mem_singleton.mpr rfl)).trans rfl
  | ⟨1, _⟩ =>
    rw [GatherDims.batchCoord_eq_zero _ _ _ (fun h => by simp [gather_S256x10000_S256x1x1_S256x1_n_1_0_0_1_2_11] at h),
      GatherDims.offCoord_eq_zero _ _ _ (fun h => ((GatherDims.mem_sKept _ _).mp h).1 (List.mem_singleton.mpr rfl))]
    simp only [Nat.add_zero]
    unfold GatherDims.start
    have hsi : gather_S256x10000_S256x1x1_S256x1_n_1_0_0_1_2_11.siIdx (ix2 b 0)
        ⟨List.idxOf (1 : Fin 2) gather_S256x10000_S256x1x1_S256x1_n_1_0_0_1_2_11.startIndexMap,
          List.idxOf_lt_length_iff.2 (List.mem_singleton.mpr rfl)⟩ = ix3 b 0 0 := by
      funext a'; refine Fin.ext ?_
      match a' with
      | ⟨0, _⟩ => rfl
      | ⟨1, _⟩ => rfl
      | ⟨2, _⟩ => rfl
    refine (dif_pos (show (1 : Fin 2) ∈ gather_S256x10000_S256x1x1_S256x1_n_1_0_0_1_2_11.startIndexMap from List.mem_singleton.mpr rfl)).trans ?_
    exact congrArg (fun i => min (idx i).toInt.toNat 9999) hsi

/-- The probability taken at a target that is a class is that class's. -/
theorem refHit_apply (P : FVec Ideal S256x10000 .f32) (g : IVec S256 32) (b : Fin 256) (h : (g (ix1 b)).toNat < 10000) :
    refHit P g (ix1 b) = P (ix2 b ⟨(g (ix1 b)).toNat, h⟩) := by
  pointwise [refHit]
  rw [refMask_apply g b h, gather_class]
  refine congrArg (fun k => P (ix2 b k)) (Fin.ext ?_)
  show min (refIdx g (ix3 b 0 0)).toInt.toNat 9999 = (g (ix1 b)).toNat
  rw [refIdx_apply g b h, toInt_class _ h, Int.toNat_natCast]
  omega

/-- The reference's new weight of a row, from all rows' target probabilities. -/
theorem refWeights_apply (p : FVec Ideal S256 .f32) (b : Fin 256) :
    refWeights p (ix2 0 b) = Cert.KernelIdeal.Hand.weightOf (fun x => p (ix1 x)) b := by
  pointwise [refWeights, refDamp]
  rfl

end Cert.ReferenceIdeal.Hand

end
-- ==== Proof.Agree.lean ====
/-
  The two programs' results are the same: what the kernel leaves in its arrays is what the reference computes of the same
  arguments.
-/
module

public import proofs.«01_k».proof.Proof.Arrays
public import proofs.«01_k».proof.Proof.Reference
public import proofs.«01_k».proof.Proof.Gen.Pre_targets_in_range

@[expose] public section

set_option maxRecDepth 16384

noncomputable section

namespace Cert.Agree

open Cert.KernelIdeal Cert.KernelIdeal.Hand Cert.ReferenceIdeal.Hand
open Idealize.ShloMosaic Idealize.ShloMosaic.TcCoe

variable (m : (ℓ : Loc Cert.KernelIdeal.nD Cert.KernelIdeal.τ Cert.KernelIdeal.sig) → Buf (Elt Ideal) ℓ)

/-! ## The targets' range -/

/-- A word that is signed at least zero and below ten thousand is below ten thousand unsigned. -/
theorem class_of_bounds (t : BitVec 32) (h0 : (0#32).sle t = true) (h1 : t.slt 10000#32 = true) : t.toNat < 10000 := by
  rw [BitVec.sle, decide_eq_true_eq] at h0
  rw [BitVec.slt, decide_eq_true_eq] at h1
  have z : (0#32).toInt = 0 := by decide
  have e : (10000#32).toInt = 10000 := by decide
  rw [z] at h0
  rw [e] at h1
  rw [BitVec.toInt_eq_toNat_cond] at h0 h1
  split at h1 <;> rename_i hc
  · omega
  · rw [if_neg hc] at h0
    omega

/-- The precondition's bit of a target, as the two comparisons. -/
theorem bound_bits (t : BitVec 32)
    (h : IntOp.andi (IntOp.cmpi CmpIPredicate.sge t 0#32) (IntOp.cmpi CmpIPredicate.slt t 10000#32) = 1#1) : t.toNat < 10000 := by
  have e : BitVec.ofBool ((0#32).sle t) &&& BitVec.ofBool (t.slt 10000#32) = 1#1 := h
  cases h0 : (0#32).sle t <;> cases h1 : t.slt 10000#32 <;> rw [h0, h1] at e
  · exact absurd e (by decide)
  · exact absurd e (by decide)
  · exact absurd e (by decide)
  · exact class_of_bounds t h0 h1

/-- Where the precondition's array is all ones, every target is a class. -/
theorem targets_of_pre (x : FVec Ideal Cert.Pre_targets_in_range.S256x2048x16x8 .f32) (g : IVec Cert.Pre_targets_in_range.S256 32)
    (w : FVec Ideal Cert.Pre_targets_in_range.S10000x2048 .f32)
    (h : Cert.Pre_targets_in_range.fn x g w = fun _ => 1#1) (b : Fin 256) : (g (ix1 b)).toNat < 10000 := by
  refine bound_bits _ ((Eq.symm ?_).trans (congrFun h (ix1 b)))
  pointwise [Cert.Pre_targets_in_range.fn]

/-! ## The results, one by one -/

/-- The kernel's pooled features are the reference's. -/
theorem necks (c : Dev nD) : neckOf m c = refNeck (mapsOf m c) := by
  funext y; idx_vars y
  rw [refNeck_apply]
  exact congrArg (fun z => Ideal.div z (Ideal.ofBits .f32 0x43000000#32)) (Finset.sum_congr rfl fun l _ => xOf_apply m c y0 l y1)

/-- The kernel's scores are the reference's. -/
theorem scores (c : Dev nD) : scoresOut m c = refScores (refNeck (mapsOf m c)) (classesOf m c) := by
  funext y; idx_vars y
  rw [refScores_apply, ← necks, ← wOf_eq]
  rfl

/-- The score a row gives a class, read of the reference's scores. -/
theorem row_scores (c : Dev nD) (b : Fin 256) :
    score (wOf m c) (neckOf m c) b = fun k => refScores (refNeck (mapsOf m c)) (classesOf m c) (ix2 b k) :=
  funext fun k => by rw [refScores_apply, ← necks, ← wOf_eq]

/-- The scores times one are the scores. -/
theorem times_one (L : FVec Ideal Cert.ReferenceIdeal.S256x10000 .f32) :
    mulf L (broadcastInDim Cert.ReferenceIdeal.S256x10000 ![] Cert.ReferenceIdeal.Gen.bcast_S_S256x10000
      (constant Cert.ReferenceIdeal.S_ .f32 0x3F800000#32)) = L := by
  funext y; idx_vars y
  pointwise

/-- The probability a row gives its target. -/
theorem target_prob (c : Dev nD) (b : Fin 256) (h : (goalsOf m c (ix1 b)).toNat < 10000) :
    Ideal.div (Ideal.exp (hitAt (wOf m c) (neckOf m c) (tOf m c) 10 (ix2 0 b) - maxAt (wOf m c) (neckOf m c) 10 (ix2 0 b)))
        (massAt (wOf m c) (neckOf m c) 10 (ix2 0 b))
      = refHit (refSoft (refScores (refNeck (mapsOf m c)) (classesOf m c))) (goalsOf m c) (ix1 b) := by
  have hn : 10000 ≤ 1024 * 10 := by norm_num
  rw [refHit_apply _ _ b h, refSoft_apply, refMax_apply]
  have top_eq : maxAt (wOf m c) (neckOf m c) 10 (ix2 0 b)
      = Finset.univ.sup fun k : Fin 10000 => refScores (refNeck (mapsOf m c)) (classesOf m c) (ix2 b k) := by
    show (Cert.Online.seen 10000 10).sup (score (wOf m c) (neckOf m c) b) = _
    rw [Cert.Online.seen_all hn, row_scores]
  have mass_eq : massAt (wOf m c) (neckOf m c) 10 (ix2 0 b)
      = ∑ j : Fin 10000, Ideal.exp (refScores (refNeck (mapsOf m c)) (classesOf m c) (ix2 b j)
          - Finset.univ.sup fun k : Fin 10000 => refScores (refNeck (mapsOf m c)) (classesOf m c) (ix2 b k)) := by
    rw [← top_eq]
    show (∑ n ∈ Cert.Online.seen 10000 10, Ideal.exp (score (wOf m c) (neckOf m c) b n - Cert.Online.top (score (wOf m c) (neckOf m c) b) 10)) = _
    rw [Cert.Online.seen_all hn]
    refine Finset.sum_congr rfl fun j _ => ?_
    rw [← congrFun (row_scores m c b) j]
    rfl
  have hit_eq : hitAt (wOf m c) (neckOf m c) (tOf m c) 10 (ix2 0 b)
      = refScores (refNeck (mapsOf m c)) (classesOf m c) (ix2 b ⟨(goalsOf m c (ix1 b)).toNat, h⟩) := by
    rw [← congrFun (row_scores m c b)]
    refine Cert.Online.picked_all _ _ hn _ fun n => ?_
    rw [tOf_apply]
    exact ⟨fun e => Fin.ext e, fun e => congrArg Fin.val e⟩
  rw [top_eq, mass_eq, hit_eq]

/-- The kernel's weights are the reference's, where every target is a class. -/
theorem weights (c : Dev nD) (h : ∀ b, (goalsOf m c (ix1 b)).toNat < 10000) :
    weightsOf m c = refWeights (refHit (refSoft (refScores (refNeck (mapsOf m c)) (classesOf m c))) (goalsOf m c)) := by
  funext y; idx_vars y
  obtain rfl : y0 = 0 := Subsingleton.elim _ _
  rw [refWeights_apply]
  exact (pay7_apply _ _ _ y1).trans (congrArg (fun p => weightOf p y1) (funext fun x => target_prob m c x (h x)))

/-- The targets the region reads are classes. -/
theorem read_targets (c : Dev nD) (h : ∀ b, (goalsOf m c (ix1 b)).toNat < 10000) (y) : (tOf m c y).toNat < 10000 := by
  idx_vars y
  obtain rfl : y0 = 0 := Subsingleton.elim _ _
  rw [tOf_apply]
  exact h y1

end Cert.Agree

end
-- ==== Proof.lean ====
/-
  The certificate: the kernel, the kernel over the extended reals and the reference run to the end and leave their arguments as they
  were; and over the extended reals the kernel's four results are the reference's, where every target is a class.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_targets_in_range
public import proofs.«01_k».proof.Proof.FrameBits
public import proofs.«01_k».proof.Proof.FrameIdeal
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs to the end, leaves its arguments as they were, and declares no counter that could end elsewhere than at
zero. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The same of the runs whose targets are classes. -/
theorem frame_reference_pre : @Cert.quiescent_ReferenceIdeal_pre_targets_in_range Cert.ReferenceIdeal.Gen.facts Cert.Pre_targets_in_range.Gen.facts :=
  fun m ρ _ =>
  (θ_run Cert.ReferenceIdeal.defs _ _).mono
    (fun r h => ⟨fun c => (h c).2.2.2.2, sem_eq_zero_of_no_sems (by decide) r.2⟩) (Cert.ReferenceIdeal.Value.run m ρ)

open Cert.KernelIdeal.Hand Cert.ReferenceIdeal.Hand in
/-- From memories that agree on the arguments, with every target a class, both programs end with the same two arrays of scores,
the same pooled features and the same weights. -/
theorem agree : @Cert.algebraic_KernelIdeal_ReferenceIdeal_pre_targets_in_range Cert.KernelIdeal.Gen.facts Cert.ReferenceIdeal.Gen.facts
    Cert.Pre_targets_in_range.Gen.facts := by
  intro m g m' g' hpre hagree
  have hg : ∀ c b, (goalsOf m c (ix1 b)).toNat < 10000 := fun c b => Cert.Agree.targets_of_pre _ _ _ (hpre c) b
  refine ⟨fun c => scoresOut m c, fun c => scoresOut m c, fun c => neckOf m c, fun c => weightsOf m c, ?_, ?_⟩
  · exact (θ_run Cert.KernelIdeal.defs _ _).mono (fun r h => h.1) (results m g fun c y => Cert.Agree.read_targets m c (hg c) y)
  · refine (θ_run Cert.ReferenceIdeal.defs _ _).mono (fun r h c => ?_) (Cert.ReferenceIdeal.Value.run m' g')
    obtain ⟨h3, h32, h2, h30, hargs⟩ := h c
    obtain ⟨e0, e1, e2⟩ := hagree c
    have n : refNeck (m' ((c.tc : Thread Cert.ReferenceIdeal.nD Cert.ReferenceIdeal.τ).loc Cert.ReferenceIdeal.main_arg0)) = neckOf m c :=
      (congrArg refNeck e0).trans (Cert.Agree.necks m c).symm
    have l : refScores (refNeck (m' ((c.tc : Thread Cert.ReferenceIdeal.nD Cert.ReferenceIdeal.τ).loc Cert.ReferenceIdeal.main_arg0)))
        (m' ((c.tc : Thread Cert.ReferenceIdeal.nD Cert.ReferenceIdeal.τ).loc Cert.ReferenceIdeal.main_arg2)) = scoresOut m c :=
      (congrArg₂ (fun x w => refScores (refNeck x) w) e0 e2).trans (Cert.Agree.scores m c).symm
    refine ⟨h3.trans l, h32.trans ((Cert.Agree.times_one _).trans l), h2.trans n, h30.trans ?_, hargs⟩
    refine (v30_eq m' c).trans (Eq.trans ?_ (Cert.Agree.weights m c (hg c)).symm)
    exact (congrArg₂ (fun s t => refWeights (refHit (refSoft s) t)) (l.trans (Cert.Agree.scores m c)) e1)

/-- Everything claimed. -/
theorem claim : Cert.Claim :=
  ⟨Cert.Kernel.Gen.facts, Cert.KernelIdeal.Gen.facts, Cert.ReferenceIdeal.Gen.facts, Cert.Pre_targets_in_range.Gen.facts,
    fun m ρ _ => Cert.Kernel.Hand.frame_main m ρ, fun m ρ _ => Cert.KernelIdeal.Hand.frame_main m ρ,
    fun m ρ _ => Cert.KernelIdeal.Hand.frame_main m ρ, frame_reference, frame_reference_pre, trivial, agree⟩

end Cert.Proof

end
